-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10)
      ∧ r.2.mem ((c.tc : Thread Cert.Mid.nD Cert.Mid.τ).loc Cert.Mid.main_arg11) = m ((c.tc : Thread Cert.Mid.nD Cert.Mid.τ).loc Cert.Mid.main_arg11)
      ∧ r.2.mem ((c.tc : Thread Cert.Mid.nD Cert.Mid.τ).loc Cert.Mid.main_arg12) = m ((c.tc : Thread Cert.Mid.nD Cert.Mid.τ).loc Cert.Mid.main_arg12)
      ∧ r.2.mem ((c.tc : Thread Cert.Mid.nD Cert.Mid.τ).loc Cert.Mid.main_arg13) = m ((c.tc : Thread Cert.Mid.nD Cert.Mid.τ).loc Cert.Mid.main_arg13))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12)
      ∧ r.2.mem ((c.tc : Thread Cert.MidIdeal.nD Cert.MidIdeal.τ).loc Cert.MidIdeal.main_arg13) = m ((c.tc : Thread Cert.MidIdeal.nD Cert.MidIdeal.τ).loc Cert.MidIdeal.main_arg13))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9)
      ∧ r.2.mem ((c.tc : Thread Cert.MidReferenceIdeal.nD Cert.MidReferenceIdeal.τ).loc Cert.MidReferenceIdeal.main_arg10) = m ((c.tc : Thread Cert.MidReferenceIdeal.nD Cert.MidReferenceIdeal.τ).loc Cert.MidReferenceIdeal.main_arg10)
      ∧ r.2.mem ((c.tc : Thread Cert.MidReferenceIdeal.nD Cert.MidReferenceIdeal.τ).loc Cert.MidReferenceIdeal.main_arg11) = m ((c.tc : Thread Cert.MidReferenceIdeal.nD Cert.MidReferenceIdeal.τ).loc Cert.MidReferenceIdeal.main_arg11)
      ∧ r.2.mem ((c.tc : Thread Cert.MidReferenceIdeal.nD Cert.MidReferenceIdeal.τ).loc Cert.MidReferenceIdeal.main_arg12) = m ((c.tc : Thread Cert.MidReferenceIdeal.nD Cert.MidReferenceIdeal.τ).loc Cert.MidReferenceIdeal.main_arg12)
      ∧ r.2.mem ((c.tc : Thread Cert.MidReferenceIdeal.nD Cert.MidReferenceIdeal.τ).loc Cert.MidReferenceIdeal.main_arg13) = m ((c.tc : Thread Cert.MidReferenceIdeal.nD Cert.MidReferenceIdeal.τ).loc Cert.MidReferenceIdeal.main_arg13))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v22) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v9_0)) (v1 : (c : Dev Cert.InprojIdeal.nD) → Buf (Elt Ideal) ((c.tc : Thread Cert.InprojIdeal.nD Cert.InprojIdeal.τ).loc Cert.InprojIdeal.main_v9_1)) (v2 : (c : Dev Cert.InprojIdeal.nD) → Buf (Elt Ideal) ((c.tc : Thread Cert.InprojIdeal.nD Cert.InprojIdeal.τ).loc Cert.InprojIdeal.main_v9_2)) (v3 : (c : Dev Cert.InprojIdeal.nD) → Buf (Elt Ideal) ((c.tc : Thread Cert.InprojIdeal.nD Cert.InprojIdeal.τ).loc Cert.InprojIdeal.main_v9_3)) (v4 : (c : Dev Cert.InprojIdeal.nD) → Buf (Elt Ideal) ((c.tc : Thread Cert.InprojIdeal.nD Cert.InprojIdeal.τ).loc Cert.InprojIdeal.main_v9_4)) (v5 : (c : Dev Cert.InprojIdeal.nD) → Buf (Elt Ideal) ((c.tc : Thread Cert.InprojIdeal.nD Cert.InprojIdeal.τ).loc Cert.InprojIdeal.main_v9_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v9_0) = v0 c
          ∧ r.2.mem ((c.tc : Thread Cert.InprojIdeal.nD Cert.InprojIdeal.τ).loc Cert.InprojIdeal.main_v9_1) = v1 c
          ∧ r.2.mem ((c.tc : Thread Cert.InprojIdeal.nD Cert.InprojIdeal.τ).loc Cert.InprojIdeal.main_v9_2) = v2 c
          ∧ r.2.mem ((c.tc : Thread Cert.InprojIdeal.nD Cert.InprojIdeal.τ).loc Cert.InprojIdeal.main_v9_3) = v3 c
          ∧ r.2.mem ((c.tc : Thread Cert.InprojIdeal.nD Cert.InprojIdeal.τ).loc Cert.InprojIdeal.main_v9_4) = v4 c
          ∧ r.2.mem ((c.tc : Thread Cert.InprojIdeal.nD Cert.InprojIdeal.τ).loc Cert.InprojIdeal.main_v9_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v72) = v0 c
          ∧ r.2.mem ((c.tc : Thread Cert.InprojReferenceIdeal.nD Cert.InprojReferenceIdeal.τ).loc Cert.InprojReferenceIdeal.main_v73) = v1 c
          ∧ r.2.mem ((c.tc : Thread Cert.InprojReferenceIdeal.nD Cert.InprojReferenceIdeal.τ).loc Cert.InprojReferenceIdeal.main_v75) = v2 c
          ∧ r.2.mem ((c.tc : Thread Cert.InprojReferenceIdeal.nD Cert.InprojReferenceIdeal.τ).loc Cert.InprojReferenceIdeal.main_v77) = v3 c
          ∧ r.2.mem ((c.tc : Thread Cert.InprojReferenceIdeal.nD Cert.InprojReferenceIdeal.τ).loc Cert.InprojReferenceIdeal.main_v78) = v4 c
          ∧ r.2.mem ((c.tc : Thread Cert.InprojReferenceIdeal.nD Cert.InprojReferenceIdeal.τ).loc Cert.InprojReferenceIdeal.main_v79) = v5 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4))

def preserves_Mid_MidIdeal : Prop :=
  True

def algebraic_MidIdeal_MidReferenceIdeal [hMidIdeal : Cert.MidIdeal.Facts] [hMidReferenceIdeal : Cert.MidReferenceIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)
      ∧ m' ((c.tc : Thread Cert.MidReferenceIdeal.nD Cert.MidReferenceIdeal.τ).loc Cert.MidReferenceIdeal.main_arg6) = m ((c.tc : Thread Cert.MidIdeal.nD Cert.MidIdeal.τ).loc Cert.MidIdeal.main_arg6)
      ∧ m' ((c.tc : Thread Cert.MidReferenceIdeal.nD Cert.MidReferenceIdeal.τ).loc Cert.MidReferenceIdeal.main_arg7) = m ((c.tc : Thread Cert.MidIdeal.nD Cert.MidIdeal.τ).loc Cert.MidIdeal.main_arg7)
      ∧ m' ((c.tc : Thread Cert.MidReferenceIdeal.nD Cert.MidReferenceIdeal.τ).loc Cert.MidReferenceIdeal.main_arg8) = m ((c.tc : Thread Cert.MidIdeal.nD Cert.MidIdeal.τ).loc Cert.MidIdeal.main_arg8)
      ∧ m' ((c.tc : Thread Cert.MidReferenceIdeal.nD Cert.MidReferenceIdeal.τ).loc Cert.MidReferenceIdeal.main_arg9) = m ((c.tc : Thread Cert.MidIdeal.nD Cert.MidIdeal.τ).loc Cert.MidIdeal.main_arg9)
      ∧ m' ((c.tc : Thread Cert.MidReferenceIdeal.nD Cert.MidReferenceIdeal.τ).loc Cert.MidReferenceIdeal.main_arg10) = m ((c.tc : Thread Cert.MidIdeal.nD Cert.MidIdeal.τ).loc Cert.MidIdeal.main_arg10)
      ∧ m' ((c.tc : Thread Cert.MidReferenceIdeal.nD Cert.MidReferenceIdeal.τ).loc Cert.MidReferenceIdeal.main_arg11) = m ((c.tc : Thread Cert.MidIdeal.nD Cert.MidIdeal.τ).loc Cert.MidIdeal.main_arg11)
      ∧ m' ((c.tc : Thread Cert.MidReferenceIdeal.nD Cert.MidReferenceIdeal.τ).loc Cert.MidReferenceIdeal.main_arg12) = m ((c.tc : Thread Cert.MidIdeal.nD Cert.MidIdeal.τ).loc Cert.MidIdeal.main_arg12)
      ∧ m' ((c.tc : Thread Cert.MidReferenceIdeal.nD Cert.MidReferenceIdeal.τ).loc Cert.MidReferenceIdeal.main_arg13) = m ((c.tc : Thread Cert.MidIdeal.nD Cert.MidIdeal.τ).loc Cert.MidIdeal.main_arg13)) →
    ∃ (v0 : (c : Dev Cert.MidIdeal.nD) → Buf (Elt Ideal) ((c.tc : Thread Cert.MidIdeal.nD Cert.MidIdeal.τ).loc Cert.MidIdeal.main_v19)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v19) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
          ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
          ∧ r.2.mem ((c.tc : Thread Cert.MidIdeal.nD Cert.MidIdeal.τ).loc Cert.MidIdeal.main_arg12) = m ((c.tc : Thread Cert.MidIdeal.nD Cert.MidIdeal.τ).loc Cert.MidIdeal.main_arg12)
          ∧ r.2.mem ((c.tc : Thread Cert.MidIdeal.nD Cert.MidIdeal.τ).loc Cert.MidIdeal.main_arg13) = m ((c.tc : Thread Cert.MidIdeal.nD Cert.MidIdeal.τ).loc Cert.MidIdeal.main_arg13))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v57) = v0 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8)
          ∧ r.2.mem ((c.tc : Thread Cert.MidReferenceIdeal.nD Cert.MidReferenceIdeal.τ).loc Cert.MidReferenceIdeal.main_arg9) = m' ((c.tc : Thread Cert.MidReferenceIdeal.nD Cert.MidReferenceIdeal.τ).loc Cert.MidReferenceIdeal.main_arg9)
          ∧ r.2.mem ((c.tc : Thread Cert.MidReferenceIdeal.nD Cert.MidReferenceIdeal.τ).loc Cert.MidReferenceIdeal.main_arg10) = m' ((c.tc : Thread Cert.MidReferenceIdeal.nD Cert.MidReferenceIdeal.τ).loc Cert.MidReferenceIdeal.main_arg10)
          ∧ r.2.mem ((c.tc : Thread Cert.MidReferenceIdeal.nD Cert.MidReferenceIdeal.τ).loc Cert.MidReferenceIdeal.main_arg11) = m' ((c.tc : Thread Cert.MidReferenceIdeal.nD Cert.MidReferenceIdeal.τ).loc Cert.MidReferenceIdeal.main_arg11)
          ∧ r.2.mem ((c.tc : Thread Cert.MidReferenceIdeal.nD Cert.MidReferenceIdeal.τ).loc Cert.MidReferenceIdeal.main_arg12) = m' ((c.tc : Thread Cert.MidReferenceIdeal.nD Cert.MidReferenceIdeal.τ).loc Cert.MidReferenceIdeal.main_arg12)
          ∧ r.2.mem ((c.tc : Thread Cert.MidReferenceIdeal.nD Cert.MidReferenceIdeal.τ).loc Cert.MidReferenceIdeal.main_arg13) = m' ((c.tc : Thread Cert.MidReferenceIdeal.nD Cert.MidReferenceIdeal.τ).loc Cert.MidReferenceIdeal.main_arg13))

def preserves_Rwkv_RwkvIdeal : Prop :=
  True

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInproj : Cert.Inproj.Facts) (hInprojIdeal : Cert.InprojIdeal.Facts) (hInprojReferenceIdeal : Cert.InprojReferenceIdeal.Facts) (hMid : Cert.Mid.Facts) (hMidIdeal : Cert.MidIdeal.Facts) (hMidReferenceIdeal : Cert.MidReferenceIdeal.Facts) (hRwkv : Cert.Rwkv.Facts) (hRwkvIdeal : Cert.RwkvIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Mid (hMid := hMid)
    ∧ quiescent_MidIdeal (hMidIdeal := hMidIdeal)
    ∧ quiescent_MidReferenceIdeal (hMidReferenceIdeal := hMidReferenceIdeal)
    ∧ quiescent_Rwkv (hRwkv := hRwkv)
    ∧ quiescent_RwkvIdeal (hRwkvIdeal := hRwkvIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Inproj_InprojIdeal
    ∧ algebraic_InprojIdeal_InprojReferenceIdeal (hInprojIdeal := hInprojIdeal) (hInprojReferenceIdeal := hInprojReferenceIdeal)
    ∧ preserves_Mid_MidIdeal
    ∧ algebraic_MidIdeal_MidReferenceIdeal (hMidIdeal := hMidIdeal) (hMidReferenceIdeal := hMidReferenceIdeal)
    ∧ preserves_Rwkv_RwkvIdeal
-- ==== Kernel.lean ====
abbrev S16x2048x1024 : Shape := ⟨3, ![16, 2048, 1024]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S128x128 : Shape := ⟨2, ![128, 128]⟩
abbrev S128x8 : Shape := ⟨2, ![128, 8]⟩
abbrev S128x8x128 : Shape := ⟨3, ![128, 8, 128]⟩
abbrev S128x1024 : Shape := ⟨2, ![128, 1024]⟩
abbrev S32768x1024 : Shape := ⟨2, ![32768, 1024]⟩
abbrev S1x1024 : Shape := ⟨2, ![1, 1024]⟩
abbrev S512x1024 : Shape := ⟨2, ![512, 1024]⟩
abbrev S1x128x128 : Shape := ⟨3, ![1, 128, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 49
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x1024, .bf16⟩
  | .hbm, ⟨4, _⟩ => ⟨S16x2048x1024, .bf16⟩
  | .hbm, ⟨5, _⟩ => ⟨S16x2048x1024, .bf16⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x5632, .f32⟩
  | .hbm, ⟨13, _⟩ => ⟨S2816x1024, .f32⟩
  | .hbm, ⟨14, _⟩ => ⟨S1024, .f32⟩
  | .hbm, ⟨15, _⟩ => ⟨S_, .i1⟩
  | .hbm, ⟨16, _⟩ => ⟨S128x128, .i1⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S128x128, .i1⟩
  | .hbm, ⟨23, _⟩ => ⟨S_, .i1⟩
  | .hbm, ⟨24, _⟩ => ⟨S128x128, .i1⟩
  | .hbm, ⟨25, _⟩ => ⟨S128x128, .i1⟩
  | .hbm, ⟨26, _⟩ => ⟨S_, .i32⟩
  | .hbm, ⟨27, _⟩ => ⟨S_, .f32⟩
  | .hbm, ⟨28, _⟩ => ⟨S8x128x128, .i1⟩
  | .hbm, ⟨29, _⟩ => ⟨S8x128x128, .f32⟩
  | .hbm, ⟨30, _⟩ => ⟨S8x128x128, .f32⟩
  | .hbm, ⟨31, _⟩ => ⟨S8x128x128, .bf16⟩
  | .hbm, ⟨32, _⟩ => ⟨S128x8, .f32⟩
  | .hbm, ⟨33, _⟩ => ⟨S128x8x128, .f32⟩
  | .hbm, ⟨34, _⟩ => ⟨S128x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .bf16⟩
  | .hbm, ⟨39, _⟩ => ⟨S32768x1024, .bf16⟩
  | .hbm, ⟨40, _⟩ => ⟨S32768x1024, .bf16⟩
  | .hbm, ⟨41, _⟩ => ⟨S1024x1024, .bf16⟩
  | .hbm, ⟨42, _⟩ => ⟨S1024x1024, .bf16⟩
  | .hbm, ⟨43, _⟩ => ⟨S1024x1024, .bf16⟩
  | .hbm, ⟨44, _⟩ => ⟨S1024x5632, .bf16⟩
  | .hbm, ⟨45, _⟩ => ⟨S2816x1024, .bf16⟩
  | .hbm, ⟨46, _⟩ => ⟨S1x1024, .f32⟩
  | .hbm, ⟨47, _⟩ => ⟨S1x1024, .f32⟩
  | .hbm, ⟨48, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S8x128x128, .bf16⟩
  | .local _ .vmem, ⟨13, _⟩ => ⟨S128x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x5632, .bf16⟩
  | .local _ .vmem, ⟨19, _⟩ => ⟨S2816x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_v1 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S16x2048x1024 : Shape := ⟨3, ![16, 2048, 1024]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16x16x128x8x128 : Shape := ⟨5, ![16, 16, 128, 8, 128]⟩
abbrev S_ : Shape := ⟨0, ![]⟩
abbrev S128x128 : Shape := ⟨2, ![128, 128]⟩
abbrev S8x16x16x128x128 : Shape := ⟨5, ![8, 16, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 118
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x1024, .bf16⟩
  | .hbm, ⟨4, _⟩ => ⟨S16x2048x1024, .bf16⟩
  | .hbm, ⟨5, _⟩ => ⟨S16x2048x1024, .bf16⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x5632, .f32⟩
  | .hbm, ⟨13, _⟩ => ⟨S2816x1024, .f32⟩
  | .hbm, ⟨14, _⟩ => ⟨S1024, .f32⟩
  | .hbm, ⟨15, _⟩ => ⟨S16x2048x1024, .f32⟩
  | .hbm, ⟨16, _⟩ => ⟨S16x2048x1024, .f32⟩
  | .hbm, ⟨17, _⟩ => ⟨S16x2048x1024, .f32⟩
  | .hbm, ⟨18, _⟩ => ⟨S16x16x128x8x128, .f32⟩
  | .hbm, ⟨19, _⟩ => ⟨S_, .i1⟩
  | .hbm, ⟨20, _⟩ => ⟨S128x128, .i1⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i32⟩
  | .hbm, ⟨25, _⟩ => ⟨S128x128, .i32⟩
  | .hbm, ⟨26, _⟩ => ⟨S128x128, .i1⟩
  | .hbm, ⟨27, _⟩ => ⟨S_, .i1⟩
  | .hbm, ⟨28, _⟩ => ⟨S128x128, .i1⟩
  | .hbm, ⟨29, _⟩ => ⟨S128x128, .i1⟩
  | .hbm, ⟨30, _⟩ => ⟨S_, .i32⟩
  | .hbm, ⟨31, _⟩ => ⟨S_, .f32⟩
  | .hbm, ⟨32, _⟩ => ⟨S8x128x128, .i1⟩
  | .hbm, ⟨33, _⟩ => ⟨S8x128x128, .f32⟩
  | .hbm, ⟨34, _⟩ => ⟨S8x128x128, .f32⟩
  | .hbm, ⟨35, _⟩ => ⟨S8x16x16x128x128, .f32⟩
  | .hbm, ⟨36, _⟩ => ⟨S16x16x128x8x128, .f32⟩
  | .hbm, ⟨37, _⟩ => ⟨S128x8, .f32⟩
  | .hbm, ⟨38, _⟩ => ⟨S128x8x1, .f32⟩
  | .hbm, ⟨39, _⟩ => ⟨S1x1x128x8x1, .f32⟩
  | .hbm, ⟨40, _⟩ => ⟨S16x16x128x8x128, .f32⟩
  | .hbm, ⟨41, _⟩ => ⟨S16x16x128x8x128, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S_, .f32⟩
  | .hbm, ⟨47, _⟩ => ⟨S16x2048x1024, .f32⟩
  | .hbm, ⟨48, _⟩ => ⟨S16x2048x1024, .f32⟩
  | .hbm, ⟨49, _⟩ => ⟨S_, .f32⟩
  | .hbm, ⟨50, _⟩ => ⟨S16x2048x1024, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S_, .f32⟩
  | .hbm, ⟨57, _⟩ => ⟨S16x2048x1024, .f32⟩
  | .hbm, ⟨58, _⟩ => ⟨S16x2048x1024, .f32⟩
  | .hbm, ⟨59, _⟩ => ⟨S_, .f32⟩
  | .hbm, ⟨60, _⟩ => ⟨S16x2048x1024, .f32⟩
  | .hbm, ⟨61, _⟩ => ⟨S16x2048x1024, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S16x2048x1024, .f32⟩
  | .hbm, ⟨68, _⟩ => ⟨S_, .f32⟩
  | .hbm, ⟨69, _⟩ => ⟨S16x2048, .f32⟩
  | .hbm, ⟨70, _⟩ => ⟨S16x2048x1, .f32⟩
  | .hbm, ⟨71, _⟩ => ⟨S_, .f32⟩
  | .hbm, ⟨72, _⟩ => ⟨S16x2048x1, .f32⟩
  | .hbm, ⟨73, _⟩ => ⟨S16x2048x1, .f32⟩
  | .hbm, ⟨74, _⟩ => ⟨S_, .f32⟩
  | .hbm, ⟨75, _⟩ => ⟨S16x2048x1, .f32⟩
  | .hbm, ⟨76, _⟩ => ⟨S16x2048x1, .f32⟩
  | .hbm, ⟨77, _⟩ => ⟨S16x2048x1, .f32⟩
  | .hbm, ⟨78, _⟩ => ⟨S16x2048x1024, .f32⟩
  | .hbm, ⟨79, _⟩ => ⟨S16x2048x1024, .f32⟩
  | .hbm, ⟨80, _⟩ => ⟨S1x1x1024, .f32⟩
  | .hbm, ⟨81, _⟩ => ⟨S16x2048x1024, .f32⟩
  | .hbm, ⟨82, _⟩ => ⟨S16x2048x1024, .f32⟩
  | .hbm, ⟨83, _⟩ => ⟨S16x2048x5632, .f32⟩
  | .hbm, ⟨84, _⟩ => ⟨S16x2048x2816, .f32⟩
  | .hbm, ⟨85, _⟩ => ⟨S16x2048x2816, .f32⟩
  | .hbm, ⟨86, _⟩ => ⟨S16x2048x2816, .f32⟩
  | .hbm, ⟨87, _⟩ => ⟨S16x2048x2816, .f32⟩
  | .hbm, ⟨88, _⟩ => ⟨S_, .f32⟩
  | .hbm, ⟨89, _⟩ => ⟨S16x2048x2816, .f32⟩
  | .hbm, ⟨90, _⟩ => ⟨S16x2048x2816, .f32⟩
  | .hbm, ⟨91, _⟩ => ⟨S_, .f32⟩
  | .hbm, ⟨92, _⟩ => ⟨S16x2048x2816, .f32⟩
  | .hbm, ⟨93, _⟩ => ⟨S16x2048x2816, .f32⟩
  | .hbm, ⟨94, _⟩ => ⟨S16x2048x2816, .f32⟩
  | .hbm, ⟨95, _⟩ => ⟨S16x2048x2816, .f32⟩
  | .hbm, ⟨96, _⟩ => ⟨S16x2048x1024, .f32⟩
  | .hbm, ⟨97, _⟩ => ⟨S_, .f32⟩
  | .hbm, ⟨98, _⟩ => ⟨S16x2048x1024, .f32⟩
  | .hbm, ⟨99, _⟩ => ⟨S16x2048x1024, .f32⟩
  | .hbm, ⟨100, _⟩ => ⟨S16x2048x1024, .f32⟩
  | .hbm, ⟨101, _⟩ => ⟨S16x2048x1024, .f32⟩
  | .hbm, ⟨102, _⟩ => ⟨S_, .f32⟩
  | .hbm, ⟨103, _⟩ => ⟨S16x2048, .f32⟩
  | .hbm, ⟨104, _⟩ => ⟨S16x2048x1, .f32⟩
  | .hbm, ⟨105, _⟩ => ⟨S_, .f32⟩
  | .hbm, ⟨106, _⟩ => ⟨S16x2048x1, .f32⟩
  | .hbm, ⟨107, _⟩ => ⟨S16x2048x1, .f32⟩
  | .hbm, ⟨108, _⟩ => ⟨S_, .f32⟩
  | .hbm, ⟨109, _⟩ => ⟨S16x2048x1, .f32⟩
  | .hbm, ⟨110, _⟩ => ⟨S16x2048x1, .f32⟩
  | .hbm, ⟨111, _⟩ => ⟨S16x2048x1, .f32⟩
  | .hbm, ⟨112, _⟩ => ⟨S16x2048x1024, .f32⟩
  | .hbm, ⟨113, _⟩ => ⟨S16x2048x1024, .f32⟩
  | .hbm, ⟨114, _⟩ => ⟨S1x1x1024, .f32⟩
  | .hbm, ⟨115, _⟩ => ⟨S16x2048x1024, .f32⟩
  | .hbm, ⟨116, _⟩ => ⟨S16x2048x1024, .f32⟩
  | .hbm, ⟨117, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_0 : Ref sig .tc := ⟨.hbm, 27, rfl⟩
abbrev main_call0_v5 : Ref sig .tc := ⟨.hbm, 28, rfl⟩
abbrev main_v5 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst : Ref sig .tc := ⟨.hbm, 46, rfl⟩
abbrev main_v18 : Ref sig .tc := ⟨.hbm, 47, rfl⟩
abbrev main_v19 : Ref sig .tc := ⟨.hbm, 48, rfl⟩
abbrev main_cst_1 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_2 : Ref sig .tc := ⟨.hbm, 56, rfl⟩
abbrev main_v26 : Ref sig .tc := ⟨.hbm, 57, rfl⟩
abbrev main_v27 : Ref sig .tc := ⟨.hbm, 58, rfl⟩
abbrev main_cst_3 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_4 : Ref sig .tc := ⟨.hbm, 68, rfl⟩
abbrev main_v36 : Ref sig .tc := ⟨.hbm, 69, rfl⟩
abbrev main_v37 : Ref sig .tc := ⟨.hbm, 70, rfl⟩
abbrev main_cst_5 : Ref sig .tc := ⟨.hbm, 71, rfl⟩
abbrev main_v38 : Ref sig .tc := ⟨.hbm, 72, rfl⟩
abbrev main_v39 : Ref sig .tc := ⟨.hbm, 73, rfl⟩
abbrev main_cst_6 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_call2_v0 : Ref sig .tc := ⟨.hbm, 86, rfl⟩
abbrev main_call2_v1 : Ref sig .tc := ⟨.hbm, 87, rfl⟩
abbrev main_call2_cst : Ref sig .tc := ⟨.hbm, 88, rfl⟩
abbrev main_call2_v2 : Ref sig .tc := ⟨.hbm, 89, rfl⟩
abbrev main_call2_v3 : Ref sig .tc := ⟨.hbm, 90, rfl⟩
abbrev main_call2_cst_0 : Ref sig .tc := ⟨.hbm, 91, rfl⟩
abbrev main_call2_v4 : Ref sig .tc := ⟨.hbm, 92, rfl⟩
abbrev main_call2_v5 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_7 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_8 : Ref sig .tc := ⟨.hbm, 102, rfl⟩
abbrev main_v58 : Ref sig .tc := ⟨.hbm, 103, rfl⟩
abbrev main_v59 : Ref sig .tc := ⟨.hbm, 104, rfl⟩
abbrev main_cst_9 : Ref sig .tc := ⟨.hbm, 105, rfl⟩
abbrev main_v60 : Ref sig .tc := ⟨.hbm, 106, rfl⟩
abbrev main_v61 : Ref sig .tc := ⟨.hbm, 107, rfl⟩
abbrev main_cst_10 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩

abbrev nD : Nat := 1
abbrev τ : Topo := Topo.v7x

variable {F : FTy → Type} [FloatOps F]
-- ==== Ffn.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 9
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1024x1024, .f32⟩
  | .local _ .vmem, ⟨6, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnReferenceIdeal.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S16x2048x5632, .f32⟩
  | .hbm, ⟨21, _⟩ => ⟨S16x2048x2816, .f32⟩
  | .hbm, ⟨22, _⟩ => ⟨S16x2048x2816, .f32⟩
  | .hbm, ⟨23, _⟩ => ⟨S16x2048x2816, .f32⟩
  | .hbm, ⟨24, _⟩ => ⟨S16x2048x2816, .f32⟩
  | .hbm, ⟨25, _⟩ => ⟨S_, .f32⟩
  | .hbm, ⟨26, _⟩ => ⟨S16x2048x2816, .f32⟩
  | .hbm, ⟨27, _⟩ => ⟨S16x2048x2816, .f32⟩
  | .hbm, ⟨28, _⟩ => ⟨S_, .f32⟩
  | .hbm, ⟨29, _⟩ => ⟨S16x2048x2816, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S16x2048x1024, .f32⟩
  | .hbm, ⟨34, _⟩ => ⟨S_, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Inproj.lean ====
abbrev S16x2048x1024 : Shape := ⟨3, ![16, 2048, 1024]⟩
abbrev S1024 : Shape := ⟨1, ![1024]⟩
abbrev S1024x7296 : Shape := ⟨2, ![1024, 7296]⟩
abbrev S1024x7168 : Shape := ⟨2, ![1024, 7168]⟩
abbrev S1024x128 : Shape := ⟨2, ![1024, 128]⟩
abbrev S_ : Shape := ⟨0, ![]⟩
abbrev S1024x256 : Shape := ⟨2, ![1024, 256]⟩
abbrev S32768x1024 : Shape := ⟨2, ![32768, 1024]⟩
abbrev S1x1024 : Shape := ⟨2, ![1, 1024]⟩
abbrev S32768x3072 : Shape := ⟨2, ![32768, 3072]⟩
abbrev S32768x256 : Shape := ⟨2, ![32768, 256]⟩
abbrev S512x1024 : Shape := ⟨2, ![512, 1024]⟩
abbrev S512x3072 : Shape := ⟨2, ![512, 3072]⟩
abbrev S512x256 : Shape := ⟨2, ![512, 256]⟩
abbrev S512 : Shape := ⟨1, ![512]⟩
abbrev S512x1 : Shape := ⟨2, ![512, 1]⟩
abbrev S1024x1024 : Shape := ⟨2, ![1024, 1024]⟩

abbrev nBuf : Space → Nat
  | .hbm => 22
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x7296, .f32⟩
  | .hbm, ⟨3, _⟩ => ⟨S1024, .f32⟩
  | .hbm, ⟨4, _⟩ => ⟨S1024, .f32⟩
  | .hbm, ⟨5, _⟩ => ⟨S1024x7168, .f32⟩
  | .hbm, ⟨6, _⟩ => ⟨S1024x7168, .bf16⟩
  | .hbm, ⟨7, _⟩ => ⟨S1024x128, .f32⟩
  | .hbm, ⟨8, _⟩ => ⟨S_, .i32⟩
  | .hbm, ⟨9, _⟩ => ⟨S_, .f32⟩
  | .hbm, ⟨10, _⟩ => ⟨S1024x256, .f32⟩
  | .hbm, ⟨11, _⟩ => ⟨S1024x256, .bf16⟩
  | .hbm, ⟨12, _⟩ => ⟨S32768x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S32768x1024, .f32⟩
  | .hbm, ⟨17, _⟩ => ⟨S32768x1024, .f32⟩
  | .hbm, ⟨18, _⟩ => ⟨S32768x1024, .bf16⟩
  | .hbm, ⟨19, _⟩ => ⟨S32768x1024, .bf16⟩
  | .hbm, ⟨20, _⟩ => ⟨S32768x3072, .f32⟩
  | .hbm, ⟨21, _⟩ => ⟨S32768x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x7168, .bf16⟩
  | .local _ .vmem, ⟨4, _⟩ => ⟨S1024x256, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x3072, .f32⟩
  | .local _ .vmem, ⟨16, _⟩ => ⟨S512x3072, .f32⟩
  | .local _ .vmem, ⟨17, _⟩ => ⟨S512x256, .f32⟩
  | .local _ .vmem, ⟨18, _⟩ => ⟨S512x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InprojReferenceIdeal.lean ====
abbrev S16x2048x1024 : Shape := ⟨3, ![16, 2048, 1024]⟩
abbrev S1024 : Shape := ⟨1, ![1024]⟩
abbrev S1024x7296 : Shape := ⟨2, ![1024, 7296]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x7296 : Shape := ⟨3, ![16, 2048, 7296]⟩
abbrev S16x2048x3200 : Shape := ⟨3, ![16, 2048, 3200]⟩
abbrev S16x2048x3072 : Shape := ⟨3, ![16, 2048, 3072]⟩
abbrev S16x2048x128 : Shape := ⟨3, ![16, 2048, 128]⟩
abbrev S16x2048x256 : Shape := ⟨3, ![16, 2048, 256]⟩
abbrev S32768x1024 : Shape := ⟨2, ![32768, 1024]⟩
abbrev S32768x3072 : Shape := ⟨2, ![32768, 3072]⟩
abbrev S32768x256 : Shape := ⟨2, ![32768, 256]⟩

abbrev nBuf : Space → Nat
  | .hbm => 103
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x7296, .f32⟩
  | .hbm, ⟨3, _⟩ => ⟨S1024, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x7296, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S_, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S_, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S_, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S_, .f32⟩
  | .hbm, ⟨50, _⟩ => ⟨S16x2048x1024, .f32⟩
  | .hbm, ⟨51, _⟩ => ⟨S16x2048x1024, .f32⟩
  | .hbm, ⟨52, _⟩ => ⟨S16x2048x1024, .f32⟩
  | .hbm, ⟨53, _⟩ => ⟨S_, .f32⟩
  | .hbm, ⟨54, _⟩ => ⟨S16x2048x1024, .f32⟩
  | .hbm, ⟨55, _⟩ => ⟨S16x2048x1024, .f32⟩
  | .hbm, ⟨56, _⟩ => ⟨S_, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S_, .f32⟩
  | .hbm, ⟨61, _⟩ => ⟨S16x2048, .f32⟩
  | .hbm, ⟨62, _⟩ => ⟨S16x2048x1, .f32⟩
  | .hbm, ⟨63, _⟩ => ⟨S_, .f32⟩
  | .hbm, ⟨64, _⟩ => ⟨S16x2048x1, .f32⟩
  | .hbm, ⟨65, _⟩ => ⟨S16x2048x1, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S_, .f32⟩
  | .hbm, ⟨70, _⟩ => ⟨S16x2048, .f32⟩
  | .hbm, ⟨71, _⟩ => ⟨S16x2048x1, .f32⟩
  | .hbm, ⟨72, _⟩ => ⟨S_, .f32⟩
  | .hbm, ⟨73, _⟩ => ⟨S16x2048x1, .f32⟩
  | .hbm, ⟨74, _⟩ => ⟨S16x2048x1, .f32⟩
  | .hbm, ⟨75, _⟩ => ⟨S16x2048x1024, .f32⟩
  | .hbm, ⟨76, _⟩ => ⟨S16x2048x1024, .f32⟩
  | .hbm, ⟨77, _⟩ => ⟨S_, .f32⟩
  | .hbm, ⟨78, _⟩ => ⟨S16x2048x1, .f32⟩
  | .hbm, ⟨79, _⟩ => ⟨S16x2048x1, .f32⟩
  | .hbm, ⟨80, _⟩ => ⟨S16x2048x1, .f32⟩
  | .hbm, ⟨81, _⟩ => ⟨S16x2048x1024, .f32⟩
  | .hbm, ⟨82, _⟩ => ⟨S16x2048x1024, .f32⟩
  | .hbm, ⟨83, _⟩ => ⟨S1x1x1024, .f32⟩
  | .hbm, ⟨84, _⟩ => ⟨S16x2048x1024, .f32⟩
  | .hbm, ⟨85, _⟩ => ⟨S16x2048x1024, .f32⟩
  | .hbm, ⟨86, _⟩ => ⟨S1x1x1024, .f32⟩
  | .hbm, ⟨87, _⟩ => ⟨S16x2048x1024, .f32⟩
  | .hbm, ⟨88, _⟩ => ⟨S16x2048x1024, .f32⟩
  | .hbm, ⟨89, _⟩ => ⟨S16x2048x3200, .f32⟩
  | .hbm, ⟨90, _⟩ => ⟨S16x2048x3072, .f32⟩
  | .hbm, ⟨91, _⟩ => ⟨S16x2048x128, .f32⟩
  | .hbm, ⟨92, _⟩ => ⟨S_, .i32⟩
  | .hbm, ⟨93, _⟩ => ⟨S_, .f32⟩
  | .hbm, ⟨94, _⟩ => ⟨S16x2048x256, .f32⟩
  | .hbm, ⟨95, _⟩ => ⟨S32768x1024, .f32⟩
  | .hbm, ⟨96, _⟩ => ⟨S32768x1024, .f32⟩
  | .hbm, ⟨97, _⟩ => ⟨S32768x1024, .f32⟩
  | .hbm, ⟨98, _⟩ => ⟨S32768x1024, .bf16⟩
  | .hbm, ⟨99, _⟩ => ⟨S32768x1024, .f32⟩
  | .hbm, ⟨100, _⟩ => ⟨S32768x1024, .bf16⟩
  | .hbm, ⟨101, _⟩ => ⟨S32768x3072, .f32⟩
  | .hbm, ⟨102, _⟩ => ⟨S32768x256, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c : Ref sig .tc := ⟨.hbm, 92, rfl⟩
abbrev main_call0_v0 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]
-- ==== Mid.lean ====
abbrev S16x2048x1024 : Shape := ⟨3, ![16, 2048, 1024]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S128x128 : Shape := ⟨2, ![128, 128]⟩
abbrev S128x8 : Shape := ⟨2, ![128, 8]⟩
abbrev S128x8x128 : Shape := ⟨3, ![128, 8, 128]⟩
abbrev S128x1024 : Shape := ⟨2, ![128, 1024]⟩
abbrev S32768x1024 : Shape := ⟨2, ![32768, 1024]⟩
abbrev S1x1024 : Shape := ⟨2, ![1, 1024]⟩
abbrev S512x1024 : Shape := ⟨2, ![512, 1024]⟩
abbrev S1x128x128 : Shape := ⟨3, ![1, 128, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 47
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x1024, .bf16⟩
  | .hbm, ⟨4, _⟩ => ⟨S16x2048x1024, .bf16⟩
  | .hbm, ⟨5, _⟩ => ⟨S16x2048x1024, .bf16⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x5632, .f32⟩
  | .hbm, ⟨13, _⟩ => ⟨S2816x1024, .f32⟩
  | .hbm, ⟨14, _⟩ => ⟨S_, .i1⟩
  | .hbm, ⟨15, _⟩ => ⟨S128x128, .i1⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S_, .i1⟩
  | .hbm, ⟨23, _⟩ => ⟨S128x128, .i1⟩
  | .hbm, ⟨24, _⟩ => ⟨S128x128, .i1⟩
  | .hbm, ⟨25, _⟩ => ⟨S_, .i32⟩
  | .hbm, ⟨26, _⟩ => ⟨S_, .f32⟩
  | .hbm, ⟨27, _⟩ => ⟨S8x128x128, .i1⟩
  | .hbm, ⟨28, _⟩ => ⟨S8x128x128, .f32⟩
  | .hbm, ⟨29, _⟩ => ⟨S8x128x128, .f32⟩
  | .hbm, ⟨30, _⟩ => ⟨S8x128x128, .bf16⟩
  | .hbm, ⟨31, _⟩ => ⟨S128x8, .f32⟩
  | .hbm, ⟨32, _⟩ => ⟨S128x8x128, .f32⟩
  | .hbm, ⟨33, _⟩ => ⟨S128x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .bf16⟩
  | .hbm, ⟨38, _⟩ => ⟨S32768x1024, .bf16⟩
  | .hbm, ⟨39, _⟩ => ⟨S32768x1024, .bf16⟩
  | .hbm, ⟨40, _⟩ => ⟨S1024x1024, .bf16⟩
  | .hbm, ⟨41, _⟩ => ⟨S1024x1024, .bf16⟩
  | .hbm, ⟨42, _⟩ => ⟨S1024x1024, .bf16⟩
  | .hbm, ⟨43, _⟩ => ⟨S1024x5632, .bf16⟩
  | .hbm, ⟨44, _⟩ => ⟨S2816x1024, .bf16⟩
  | .hbm, ⟨45, _⟩ => ⟨S1x1024, .f32⟩
  | .hbm, ⟨46, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S8x128x128, .bf16⟩
  | .local _ .vmem, ⟨13, _⟩ => ⟨S128x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x5632, .bf16⟩
  | .local _ .vmem, ⟨19, _⟩ => ⟨S2816x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v1 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MidReferenceIdeal.lean ====
abbrev S16x2048x1024 : Shape := ⟨3, ![16, 2048, 1024]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16x16x128x8x128 : Shape := ⟨5, ![16, 16, 128, 8, 128]⟩
abbrev S_ : Shape := ⟨0, ![]⟩
abbrev S128x128 : Shape := ⟨2, ![128, 128]⟩
abbrev S8x16x16x128x128 : Shape := ⟨5, ![8, 16, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 101
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x1024, .bf16⟩
  | .hbm, ⟨4, _⟩ => ⟨S16x2048x1024, .bf16⟩
  | .hbm, ⟨5, _⟩ => ⟨S16x2048x1024, .bf16⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x5632, .f32⟩
  | .hbm, ⟨13, _⟩ => ⟨S2816x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S16x16x128x8x128, .f32⟩
  | .hbm, ⟨18, _⟩ => ⟨S_, .i1⟩
  | .hbm, ⟨19, _⟩ => ⟨S128x128, .i1⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i32⟩
  | .hbm, ⟨24, _⟩ => ⟨S128x128, .i32⟩
  | .hbm, ⟨25, _⟩ => ⟨S128x128, .i1⟩
  | .hbm, ⟨26, _⟩ => ⟨S_, .i1⟩
  | .hbm, ⟨27, _⟩ => ⟨S128x128, .i1⟩
  | .hbm, ⟨28, _⟩ => ⟨S128x128, .i1⟩
  | .hbm, ⟨29, _⟩ => ⟨S_, .i32⟩
  | .hbm, ⟨30, _⟩ => ⟨S_, .f32⟩
  | .hbm, ⟨31, _⟩ => ⟨S8x128x128, .i1⟩
  | .hbm, ⟨32, _⟩ => ⟨S8x128x128, .f32⟩
  | .hbm, ⟨33, _⟩ => ⟨S8x128x128, .f32⟩
  | .hbm, ⟨34, _⟩ => ⟨S8x16x16x128x128, .f32⟩
  | .hbm, ⟨35, _⟩ => ⟨S16x16x128x8x128, .f32⟩
  | .hbm, ⟨36, _⟩ => ⟨S128x8, .f32⟩
  | .hbm, ⟨37, _⟩ => ⟨S128x8x1, .f32⟩
  | .hbm, ⟨38, _⟩ => ⟨S1x1x128x8x1, .f32⟩
  | .hbm, ⟨39, _⟩ => ⟨S16x16x128x8x128, .f32⟩
  | .hbm, ⟨40, _⟩ => ⟨S16x16x128x8x128, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S_, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S_, .f32⟩
  | .hbm, ⟨56, _⟩ => ⟨S16x2048x1024, .f32⟩
  | .hbm, ⟨57, _⟩ => ⟨S16x2048x1024, .f32⟩
  | .hbm, ⟨58, _⟩ => ⟨S_, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S_, .f32⟩
  | .hbm, ⟨68, _⟩ => ⟨S16x2048, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S16x2048x1, .f32⟩
  | .hbm, ⟨77, _⟩ => ⟨S16x2048x1024, .f32⟩
  | .hbm, ⟨78, _⟩ => ⟨S16x2048x1024, .f32⟩
  | .hbm, ⟨79, _⟩ => ⟨S1x1x1024, .f32⟩
  | .hbm, ⟨80, _⟩ => ⟨S16x2048x1024, .f32⟩
  | .hbm, ⟨81, _⟩ => ⟨S16x2048x1024, .f32⟩
  | .hbm, ⟨82, _⟩ => ⟨S16x2048x5632, .f32⟩
  | .hbm, ⟨83, _⟩ => ⟨S16x2048x2816, .f32⟩
  | .hbm, ⟨84, _⟩ => ⟨S16x2048x2816, .f32⟩
  | .hbm, ⟨85, _⟩ => ⟨S16x2048x2816, .f32⟩
  | .hbm, ⟨86, _⟩ => ⟨S16x2048x2816, .f32⟩
  | .hbm, ⟨87, _⟩ => ⟨S_, .f32⟩
  | .hbm, ⟨88, _⟩ => ⟨S16x2048x2816, .f32⟩
  | .hbm, ⟨89, _⟩ => ⟨S16x2048x2816, .f32⟩
  | .hbm, ⟨90, _⟩ => ⟨S_, .f32⟩
  | .hbm, ⟨91, _⟩ => ⟨S16x2048x2816, .f32⟩
  | .hbm, ⟨92, _⟩ => ⟨S16x2048x2816, .f32⟩
  | .hbm, ⟨93, _⟩ => ⟨S16x2048x2816, .f32⟩
  | .hbm, ⟨94, _⟩ => ⟨S16x2048x2816, .f32⟩
  | .hbm, ⟨95, _⟩ => ⟨S16x2048x1024, .f32⟩
  | .hbm, ⟨96, _⟩ => ⟨S_, .f32⟩
  | .hbm, ⟨97, _⟩ => ⟨S16x2048x1024, .f32⟩
  | .hbm, ⟨98, _⟩ => ⟨S16x2048x1024, .f32⟩
  | .hbm, ⟨99, _⟩ => ⟨S16x2048x1024, .f32⟩
  | .hbm, ⟨100, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v5 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst : Ref sig .tc := ⟨.hbm, 45, rfl⟩
abbrev main_v18 : Ref sig .tc := ⟨.hbm, 46, rfl⟩
abbrev main_v19 : Ref sig .tc := ⟨.hbm, 47, rfl⟩
abbrev main_cst_1 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_2 : Ref sig .tc := ⟨.hbm, 55, rfl⟩
abbrev main_v26 : Ref sig .tc := ⟨.hbm, 56, rfl⟩
abbrev main_v27 : Ref sig .tc := ⟨.hbm, 57, rfl⟩
abbrev main_cst_3 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_4 : Ref sig .tc := ⟨.hbm, 67, rfl⟩
abbrev main_v36 : Ref sig .tc := ⟨.hbm, 68, rfl⟩
abbrev main_v37 : Ref sig .tc := ⟨.hbm, 69, rfl⟩
abbrev main_cst_5 : Ref sig .tc := ⟨.hbm, 70, rfl⟩
abbrev main_v38 : Ref sig .tc := ⟨.hbm, 71, rfl⟩
abbrev main_v39 : Ref sig .tc := ⟨.hbm, 72, rfl⟩
abbrev main_cst_6 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_7 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩

abbrev nD : Nat := 1
abbrev τ : Topo := Topo.v7x

variable {F : FTy → Type} [FloatOps F]
-- ==== Rwkv.lean ====
abbrev S32768x3072 : Shape := ⟨2, ![32768, 3072]⟩
abbrev S32768x256 : Shape := ⟨2, ![32768, 256]⟩
abbrev S3200 : Shape := ⟨1, ![3200]⟩
abbrev S1024 : Shape := ⟨1, ![1024]⟩
abbrev S64x1024 : Shape := ⟨2, ![64, 1024]⟩
abbrev S16x64 : Shape := ⟨2, ![16, 64]⟩
abbrev S3072 : Shape := ⟨1, ![3072]⟩
abbrev S128 : Shape := ⟨1, ![128]⟩
abbrev S_ : Shape := ⟨0, ![]⟩
abbrev S256 : Shape := ⟨1, ![256]⟩
abbrev S128x1024 : Shape := ⟨2, ![128, 1024]⟩
abbrev S1x3072 : Shape := ⟨2, ![1, 3072]⟩
abbrev S1x256 : Shape := ⟨2, ![1, 256]⟩
abbrev S1x1024 : Shape := ⟨2, ![1, 1024]⟩
abbrev S32768x1024 : Shape := ⟨2, ![32768, 1024]⟩
abbrev S512x3072 : Shape := ⟨2, ![512, 3072]⟩
abbrev S512x256 : Shape := ⟨2, ![512, 256]⟩
abbrev S128x3072 : Shape := ⟨2, ![128, 3072]⟩
abbrev S128x256 : Shape := ⟨2, ![128, 256]⟩
abbrev S512x1024 : Shape := ⟨2, ![512, 1024]⟩
abbrev S8x3072 : Shape := ⟨2, ![8, 3072]⟩
abbrev S8x256 : Shape := ⟨2, ![8, 256]⟩
abbrev S4x256x256 : Shape := ⟨3, ![4, 256, 256]⟩
abbrev S12x64x128 : Shape := ⟨3, ![12, 64, 128]⟩
abbrev S2x256x128 : Shape := ⟨3, ![2, 256, 128]⟩
abbrev S256x256 : Shape := ⟨2, ![256, 256]⟩
abbrev S64x64 : Shape := ⟨2, ![64, 64]⟩
abbrev S2x128x1024 : Shape := ⟨3, ![2, 128, 1024]⟩
abbrev S2x64x1024 : Shape := ⟨3, ![2, 64, 1024]⟩
abbrev S2x8x1024 : Shape := ⟨3, ![2, 8, 1024]⟩
abbrev S64x256 : Shape := ⟨2, ![64, 256]⟩
abbrev S8x1 : Shape := ⟨2, ![8, 1]⟩
abbrev S64x128 : Shape := ⟨2, ![64, 128]⟩
abbrev S1x64x128 : Shape := ⟨3, ![1, 64, 128]⟩
abbrev S256x128 : Shape := ⟨2, ![256, 128]⟩
abbrev S1x256x128 : Shape := ⟨3, ![1, 256, 128]⟩
abbrev S56x256 : Shape := ⟨2, ![56, 256]⟩
abbrev S8x1024 : Shape := ⟨2, ![8, 1024]⟩
abbrev S56x1024 : Shape := ⟨2, ![56, 1024]⟩
abbrev S1x128x1024 : Shape := ⟨3, ![1, 128, 1024]⟩
abbrev S1x64x1024 : Shape := ⟨3, ![1, 64, 1024]⟩
abbrev S1x8x1024 : Shape := ⟨3, ![1, 8, 1024]⟩
abbrev S1x1x1024 : Shape := ⟨3, ![1, 1, 1024]⟩
abbrev S256x512 : Shape := ⟨2, ![256, 512]⟩
abbrev S128x512 : Shape := ⟨2, ![128, 512]⟩
abbrev S1x256x256 : Shape := ⟨3, ![1, 256, 256]⟩

abbrev nBuf : Space → Nat
  | .hbm => 41
  | .vmem => 39
  | .smem => 0
  | _ => 0

abbrev bufTy : (tb : Table) → Fin (tcTables nBuf tb) → BufTy
  | .hbm, ⟨0, _⟩ => ⟨S32768x3072, .f32⟩
  | .hbm, ⟨1, _⟩ => ⟨S32768x256, .f32⟩
  | .hbm, ⟨2, _⟩ => ⟨S3200, .f32⟩
  | .hbm, ⟨3, _⟩ => ⟨S1024, .f32⟩
  | .hbm, ⟨4, _⟩ => ⟨S64x1024, .f32⟩
  | .hbm, ⟨5, _⟩ => ⟨S1024, .f32⟩
  | .hbm, ⟨6, _⟩ => ⟨S64x1024, .f32⟩
  | .hbm, ⟨7, _⟩ => ⟨S1024, .f32⟩
  | .hbm, ⟨8, _⟩ => ⟨S1024, .f32⟩
  | .hbm, ⟨9, _⟩ => ⟨S16x64, .f32⟩
  | .hbm, ⟨10, _⟩ => ⟨S1024, .f32⟩
  | .hbm, ⟨11, _⟩ => ⟨S1024, .f32⟩
  | .hbm, ⟨12, _⟩ => ⟨S3072, .f32⟩
  | .hbm, ⟨13, _⟩ => ⟨S128, .f32⟩
  | .hbm, ⟨14, _⟩ => ⟨S_, .i32⟩
  | .hbm, ⟨15, _⟩ => ⟨S_, .f32⟩
  | .hbm, ⟨16, _⟩ => ⟨S256, .f32⟩
  | .hbm, ⟨17, _⟩ => ⟨S_, .bf16⟩
  | .hbm, ⟨18, _⟩ => ⟨S128x1024, .bf16⟩
  | .hbm, ⟨19, _⟩ => ⟨S64x1024, .bf16⟩
  | .hbm, ⟨20, _⟩ => ⟨S_, .i32⟩
  | .hbm, ⟨21, _⟩ => ⟨S_, .i32⟩
  | .hbm, ⟨22, _⟩ => ⟨S128x1024, .bf16⟩
  | .hbm, ⟨23, _⟩ => ⟨S_, .bf16⟩
  | .hbm, ⟨24, _⟩ => ⟨S128x1024, .bf16⟩
  | .hbm, ⟨25, _⟩ => ⟨S64x1024, .bf16⟩
  | .hbm, ⟨26, _⟩ => ⟨S_, .i32⟩
  | .hbm, ⟨27, _⟩ => ⟨S_, .i32⟩
  | .hbm, ⟨28, _⟩ => ⟨S128x1024, .bf16⟩
  | .hbm, ⟨29, _⟩ => ⟨S1024, .f32⟩
  | .hbm, ⟨30, _⟩ => ⟨S1x3072, .f32⟩
  | .hbm, ⟨31, _⟩ => ⟨S1x256, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S32768x1024, .bf16⟩
  | .hbm, ⟨40, _⟩ => ⟨S32768x1024, .f32⟩
  | .local _ .vmem, ⟨0, _⟩ => ⟨S512x3072, .f32⟩
  | .local _ .vmem, ⟨1, _⟩ => ⟨S512x3072, .f32⟩
  | .local _ .vmem, ⟨2, _⟩ => ⟨S512x256, .f32⟩
  | .local _ .vmem, ⟨3, _⟩ => ⟨S512x256, .f32⟩
  | .local _ .vmem, ⟨4, _⟩ => ⟨S128x3072, .f32⟩
  | .local _ .vmem, ⟨5, _⟩ => ⟨S128x3072, .f32⟩
  | .local _ .vmem, ⟨6, _⟩ => ⟨S128x256, .f32⟩
  | .local _ .vmem, ⟨7, _⟩ => ⟨S128x256, .f32⟩
  | .local _ .vmem, ⟨8, _⟩ => ⟨S1x3072, .f32⟩
  | .local _ .vmem, ⟨9, _⟩ => ⟨S1x256, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S128x1024, .bf16⟩
  | .local _ .vmem, ⟨18, _⟩ => ⟨S128x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S8x3072, .f32⟩
  | .local _ .vmem, ⟨24, _⟩ => ⟨S8x256, .f32⟩
  | .local _ .vmem, ⟨25, _⟩ => ⟨S4x256x256, .f32⟩
  | .local _ .vmem, ⟨26, _⟩ => ⟨S12x64x128, .bf16⟩
  | .local _ .vmem, ⟨27, _⟩ => ⟨S2x256x128, .bf16⟩
  | .local _ .vmem, ⟨28, _⟩ => ⟨S256x256, .bf16⟩
  | .local _ .vmem, ⟨29, _⟩ => ⟨S64x64, .bf16⟩
  | .local _ .vmem, ⟨30, _⟩ => ⟨S2x128x1024, .bf16⟩
  | .local _ .vmem, ⟨31, _⟩ => ⟨S2x128x1024, .bf16⟩
  | .local _ .vmem, ⟨32, _⟩ => ⟨S2x128x1024, .bf16⟩
  | .local _ .vmem, ⟨33, _⟩ => ⟨S2x64x1024, .f32⟩
  | .local _ .vmem, ⟨34, _⟩ => ⟨S2x64x1024, .f32⟩
  | .local _ .vmem, ⟨35, _⟩ => ⟨S2x8x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_c_1 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_c_3 : Ref sig .tc := ⟨.hbm, 26, rfl⟩
abbrev main_c_4 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19_0 : Ref sig .tc := ⟨.hbm, 39, rfl⟩
abbrev main_v19_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_scratch9 : Ref sig .tc := ⟨.vmem, 32, rfl⟩
abbrev cc0_scratch10 : Ref sig .tc := ⟨.vmem, 33, rfl⟩
abbrev cc0_scratch11 : Ref sig .tc := ⟨.vmem, 34, rfl⟩
abbrev cc0_scratch12 : Ref sig .tc := ⟨.vmem, 35, rfl⟩
abbrev cc0_scratch13 : Ref sig .tc := ⟨.vmem, 36, rfl⟩
abbrev cc0_scratch14 : Ref sig .tc := ⟨.vmem, 37, rfl⟩
abbrev cc0_scratch15 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![16, 4], ![false, false]⟩

def k0_mult1 : BitVec 32 :=
  let c128_i32 : BitVec 32 := 128#32
  c128_i32
def k0_mult2 : BitVec 32 :=
  let c192_i32 : BitVec 32 := 192#32
  c192_i32
def k0_mult3 : BitVec 32 :=
  let c0_i32_2007 : BitVec 32 := 0#32
  c0_i32_2007
@[reducible] def k0_t1_loop : Scf.Loop 32 :=
  let c1_i32_2137 : BitVec 32 := 1#32
  let c2_i32_2138 : BitVec 32 := 2#32
  let v4505 : BitVec 32 := Scalar.addi c1_i32_2137 c2_i32_2138
  let c1_i32_2139 : BitVec 32 := 1#32
  ⟨c1_i32_2137, v4505, c1_i32_2139⟩
def k0_mult4 (k0_t1 : Fin k0_t1_loop.trips) : BitVec 32 :=
  let c2_i32_4467 : BitVec 32 := 2#32
  let c1_i32_2137 : BitVec 32 := 1#32
  let c1_i32_2139 : BitVec 32 := 1#32
  let arg35 : BitVec 32 := Scf.iv c1_i32_2137 c1_i32_2139 k0_t1
  let v9262 : BitVec 32 := Scalar.muli c2_i32_4467 arg35
  let c2_i32_4468 : BitVec 32 := 2#32
  let v9263 : BitVec 32 := Scalar.addi v9262 c2_i32_4468
  let c0_i32_4469 : BitVec 32 := 0#32
  let v9264 : BitVec 32 := Scalar.addi v9263 c0_i32_4469
  let c64_i32_4470 : BitVec 32 := 64#32
  let v9265 : BitVec 32 := Scalar.muli v9264 c64_i32_4470
  v9265
def k0_off1 (k0_t1 : Fin k0_t1_loop.trips) (c0_i32_4469 : BitVec 32) : Fin 2 → Nat :=
  let c2_i32_4467 : BitVec 32 := 2#32
  let c1_i32_2137 : BitVec 32 := 1#32
  let c1_i32_2139 : BitVec 32 := 1#32
  let arg35 : BitVec 32 := Scf.iv c1_i32_2137 c1_i32_2139 k0_t1
  let v9262 : BitVec 32 := Scalar.muli c2_i32_4467 arg35
  let c2_i32_4468 : BitVec 32 := 2#32
  let v9263 : BitVec 32 := Scalar.addi v9262 c2_i32_4468
  let v9264 : BitVec 32 := Scalar.addi v9263 c0_i32_4469
  let c64_i32_4470 : BitVec 32 := 64#32
  let v9265 : BitVec 32 := Scalar.muli v9264 c64_i32_4470
  let v9266 : BitVec 32 := v9265
  let v9267 : Index := Scalar.indexCast v9266
  let c0_4471 : Index := 0#32
  ![v9267.toNat, 0]
def k0_mult5 (k0_t1 : Fin k0_t1_loop.trips) : BitVec 32 :=
  let c2_i32_4355 : BitVec 32 := 2#32
  let c1_i32_2137 : BitVec 32 := 1#32
  let c1_i32_2139 : BitVec 32 := 1#32
  let arg35 : BitVec 32 := Scf.iv c1_i32_2137 c1_i32_2139 k0_t1
  let v9065 : BitVec 32 := Scalar.muli c2_i32_4355 arg35
  let c1_i32_4356 : BitVec 32 := 1#32
  let v9066 : BitVec 32 := Scalar.subi v9065 c1_i32_4356
  let c64_i32_4613 : BitVec 32 := 64#32
  let v9595 : BitVec 32 := Scalar.muli v9066 c64_i32_4613
  v9595
def k0_off2 (k0_t1 : Fin k0_t1_loop.trips) : Fin 2 → Nat :=
  let c2_i32_4355 : BitVec 32 := 2#32
  let c1_i32_2137 : BitVec 32 := 1#32
  let c1_i32_2139 : BitVec 32 := 1#32
  let arg35 : BitVec 32 := Scf.iv c1_i32_2137 c1_i32_2139 k0_t1
  let v9065 : BitVec 32 := Scalar.muli c2_i32_4355 arg35
  let c1_i32_4356 : BitVec 32 := 1#32
  let v9066 : BitVec 32 := Scalar.subi v9065 c1_i32_4356
  let c64_i32_4613 : BitVec 32 := 64#32
  let v9595 : BitVec 32 := Scalar.muli v9066 c64_i32_4613
  let v9596 : BitVec 32 := v9595
  let v9597 : Index := Scalar.indexCast v9596
  let c0_4614 : Index := 0#32
  ![v9597.toNat, 0]
def k0_off3 (k0_t1 : Fin k0_t1_loop.trips) (c0_i32_4469 : BitVec 32) : Fin 2 → Nat :=
  let c2_i32_4467 : BitVec 32 := 2#32
  let c1_i32_2137 : BitVec 32 := 1#32
  let c1_i32_2139 : BitVec 32 := 1#32
  let arg35 : BitVec 32 := Scf.iv c1_i32_2137 c1_i32_2139 k0_t1
  let v9262 : BitVec 32 := Scalar.muli c2_i32_4467 arg35
  let c2_i32_4468 : BitVec 32 := 2#32
  let v9263 : BitVec 32 := Scalar.addi v9262 c2_i32_4468
  let v9264 : BitVec 32 := Scalar.addi v9263 c0_i32_4469
  let c64_i32_4470 : BitVec 32 := 64#32
  let v9265 : BitVec 32 := Scalar.muli v9264 c64_i32_4470
  let v9266 : BitVec 32 := v9265
  let v10533 : Index := Scalar.indexCast v9266
  let c0_4960 : Index := 0#32
  ![v10533.toNat, 0]
def k0_off4 (k0_t1 : Fin k0_t1_loop.trips) (c0_i32_4469 : BitVec 32) : Fin 2 → Nat :=
  let c2_i32_4467 : BitVec 32 := 2#32
  let c1_i32_2137 : BitVec 32 := 1#32
  let c1_i32_2139 : BitVec 32 := 1#32
  let arg35 : BitVec 32 := Scf.iv c1_i32_2137 c1_i32_2139 k0_t1
  let v9262 : BitVec 32 := Scalar.muli c2_i32_4467 arg35
  let c2_i32_4468 : BitVec 32 := 2#32
  let v9263 : BitVec 32 := Scalar.addi v9262 c2_i32_4468
  let v9264 : BitVec 32 := Scalar.addi v9263 c0_i32_4469
  let c64_i32_4470 : BitVec 32 := 64#32
  let v9265 : BitVec 32 := Scalar.muli v9264 c64_i32_4470
  let v9266 : BitVec 32 := v9265
  let v10555 : Index := Scalar.indexCast v9266
  let c1024_4968 : Index := 1024#32
  ![v10555.toNat, 1024]
def k0_off5 (k0_t1 : Fin k0_t1_loop.trips) (c0_i32_4469 : BitVec 32) : Fin 2 → Nat :=
  let c2_i32_4467 : BitVec 32 := 2#32
  let c1_i32_2137 : BitVec 32 := 1#32
  let c1_i32_2139 : BitVec 32 := 1#32
  let arg35 : BitVec 32 := Scf.iv c1_i32_2137 c1_i32_2139 k0_t1
  let v9262 : BitVec 32 := Scalar.muli c2_i32_4467 arg35
  let c2_i32_4468 : BitVec 32 := 2#32
  let v9263 : BitVec 32 := Scalar.addi v9262 c2_i32_4468
  let v9264 : BitVec 32 := Scalar.addi v9263 c0_i32_4469
  let c64_i32_4470 : BitVec 32 := 64#32
  let v9265 : BitVec 32 := Scalar.muli v9264 c64_i32_4470
  let v9266 : BitVec 32 := v9265
  let v10577 : Index := Scalar.indexCast v9266
  let c2048_4976 : Index := 2048#32
  ![v10577.toNat, 2048]
def k0_mult6 (k0_t1 : Fin k0_t1_loop.trips) : BitVec 32 :=
  let c2_i32_5641 : BitVec 32 := 2#32
  let c1_i32_2137 : BitVec 32 := 1#32
  let c1_i32_2139 : BitVec 32 := 1#32
  let arg35 : BitVec 32 := Scf.iv c1_i32_2137 c1_i32_2139 k0_t1
  let v11850 : BitVec 32 := Scalar.muli c2_i32_5641 arg35
  let c2_i32_5642 : BitVec 32 := 2#32
  let v11851 : BitVec 32 := Scalar.addi v11850 c2_i32_5642
  let c1_i32_5643 : BitVec 32 := 1#32
  let v11852 : BitVec 32 := Scalar.addi v11851 c1_i32_5643
  let c64_i32_5644 : BitVec 32 := 64#32
  let v11853 : BitVec 32 := Scalar.muli v11852 c64_i32_5644
  v11853
def k0_mult7 (k0_t1 : Fin k0_t1_loop.trips) : BitVec 32 :=
  let c2_i32_6335 : BitVec 32 := 2#32
  let c1_i32_2137 : BitVec 32 := 1#32
  let c1_i32_2139 : BitVec 32 := 1#32
  let arg35 : BitVec 32 := Scf.iv c1_i32_2137 c1_i32_2139 k0_t1
  let v13252 : BitVec 32 := Scalar.muli c2_i32_6335 arg35
  let c64_i32_6352 : BitVec 32 := 64#32
  let v13281 : BitVec 32 := Scalar.muli v13252 c64_i32_6352
  v13281
def k0_off6 (k0_t1 : Fin k0_t1_loop.trips) : Fin 2 → Nat :=
  let c2_i32_6335 : BitVec 32 := 2#32
  let c1_i32_2137 : BitVec 32 := 1#32
  let c1_i32_2139 : BitVec 32 := 1#32
  let arg35 : BitVec 32 := Scf.iv c1_i32_2137 c1_i32_2139 k0_t1
  let v13252 : BitVec 32 := Scalar.muli c2_i32_6335 arg35
  let c64_i32_6352 : BitVec 32 := 64#32
  let v13281 : BitVec 32 := Scalar.muli v13252 c64_i32_6352
  let v13282 : BitVec 32 := v13281
  let v13283 : Index := Scalar.indexCast v13282
  let c0_6353 : Index := 0#32
  ![v13283.toNat, 0]
def k0_mult8 : BitVec 32 :=
  let c320_i32 : BitVec 32 := 320#32
  c320_i32
def k0_mult9 : BitVec 32 :=
  let c384_i32 : BitVec 32 := 384#32
  c384_i32
def k0_mult10 : BitVec 32 :=
  let c448_i32 : BitVec 32 := 448#32
  c448_i32
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.addi v1 c1_i32
  let c63_i32 : BitVec 32 := 63#32
  let v3 : BitVec 32 := Scalar.minsi v2 c63_i32
  let c4_i32_0 : BitVec 32 := 4#32
  let v4 : BitVec 32 := Scalar.muli v3 c4_i32_0
  let c0_i32 : BitVec 32 := 0#32
  let c0_i32_1 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.addi v1 c1_i32
  let c63_i32 : BitVec 32 := 63#32
  let v3 : BitVec 32 := Scalar.minsi v2 c63_i32
  let c4_i32_0 : BitVec 32 := 4#32
  let v4 : BitVec 32 := Scalar.muli v3 c4_i32_0
  let c0_i32 : BitVec 32 := 0#32
  let c0_i32_1 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Proof.RowMath.lean ====
/- The mathematics of one row of the layer, on the extended reals: the RMS norm of a row, the SwiGLU feed-forward of a
   row, and a sum over 2816 indices as eleven sums of 256. Both the kernels and the references are read as these. -/
module

public import Idealize.ShloMosaic.Lib.Pointwise
public import Idealize.ShloMosaic.Lib.Pipeline.Value

@[expose] public section

noncomputable section

namespace Cert.RowMath

open Idealize.ShloMosaic

/-- A 32-bit float constant of the programs, as the extended real it denotes. -/
abbrev lit (w : BitVec 32) : EReal := Ideal.ofBits .f32 w

/-- RMS norm of a row `x` with gain `g`: `x / sqrt (mean (x²) + 1e-6) · g`. -/
def rms (x g : Fin 1024 → EReal) (j : Fin 1024) : EReal :=
  x j * Ideal.rsqrt (Ideal.div (∑ k, x k * x k) (lit 0x44800000#32) + lit 0x358637BD#32) * g j

/-- One row times a matrix, at a column. -/
def dot {a b : Nat} (h : Fin a → EReal) (w : Fin a → Fin b → EReal) (k : Fin b) : EReal := ∑ c, h c * w c k

/-- The gated hidden value at `k`: `silu (h · W[:, k]) · (h · W[:, 2816 + k])`. -/
def gated (h : Fin 1024 → EReal) (w : Fin 1024 → Fin 5632 → EReal) (k : Fin 2816) : EReal :=
  dot h w ⟨k, by omega⟩ * Ideal.logistic (dot h w ⟨k, by omega⟩) * dot h w ⟨2816 + k, by omega⟩

/-- A row through the feed-forward and the half-weighted residual. -/
def ffn (x g : Fin 1024 → EReal) (w : Fin 1024 → Fin 5632 → EReal) (d : Fin 2816 → Fin 1024 → EReal)
    (l : Fin 1024) : EReal :=
  x l + lit 0x3F000000#32 * ∑ k, gated (rms x g) w k * d k l

/-- The tanh form of `gelu`. -/
def gelu (u : EReal) : EReal :=
  u * (lit 0x3F000000#32 * (1 + Ideal.tanh (lit 0x3F4C422A#32 * (u + lit 0x3D372713#32 * (u * (u * u))))))

/-- The mean of a row. -/
def mean (x : Fin 1024 → EReal) : EReal := Ideal.div (∑ k, x k) (lit 0x44800000#32)

/-- Layer norm of a row `x` with gain `g` and shift `b`: `(x - mean) / sqrt (variance + 1e-5) · g + b`. -/
def lnorm (x g b : Fin 1024 → EReal) (j : Fin 1024) : EReal :=
  (x j - mean x) * Ideal.rsqrt (mean (fun k => (x k - mean x) * (x k - mean x)) + lit 0x3727C5AC#32) * g j + b j

/-- A row's residual plus the output projection of its gated mixers: `x + (σ(ga) · (ya Wa) + σ(gb) · (yb Wb)) Wo`. -/
def mixed (x ga gb ya yb : Fin 1024 → EReal) (wa wb wo : Fin 1024 → Fin 1024 → EReal) (l : Fin 1024) : EReal :=
  x l + dot (fun k => Ideal.logistic (ga k) * dot ya wa k + Ideal.logistic (gb k) * dot yb wb k) wo l

/-- A sum over `a + b` indices is the sum over the first `a` and the sum over the last `b`. -/
theorem sum_split {n : Nat} (a b : Nat) (h : n = a + b) (f : Fin n → EReal) :
    ∑ k, f k = (∑ k : Fin a, f ⟨k, by omega⟩) + ∑ k : Fin b, f ⟨a + k, by omega⟩ := by
  subst h
  exact Fin.sum_univ_add f

/-- A sum over 2816 indices is eleven sums of 256, added from the left. -/
theorem sum_eleven (f : Fin 2816 → EReal) :
    ∑ k, f k = (∑ k : Fin 256, f ⟨k, by omega⟩) + (∑ k : Fin 256, f ⟨256 + k, by omega⟩)
      + (∑ k : Fin 256, f ⟨512 + k, by omega⟩) + (∑ k : Fin 256, f ⟨768 + k, by omega⟩)
      + (∑ k : Fin 256, f ⟨1024 + k, by omega⟩) + (∑ k : Fin 256, f ⟨1280 + k, by omega⟩)
      + (∑ k : Fin 256, f ⟨1536 + k, by omega⟩) + (∑ k : Fin 256, f ⟨1792 + k, by omega⟩)
      + (∑ k : Fin 256, f ⟨2048 + k, by omega⟩) + (∑ k : Fin 256, f ⟨2304 + k, by omega⟩)
      + ∑ k : Fin 256, f ⟨2560 + k, by omega⟩ := by
  rw [sum_split 2560 256 rfl, sum_split 2304 256 rfl, sum_split 2048 256 rfl, sum_split 1792 256 rfl,
    sum_split 1536 256 rfl, sum_split 1280 256 rfl, sum_split 1024 256 rfl, sum_split 768 256 rfl,
    sum_split 512 256 rfl, sum_split 256 256 rfl]

/-- The integer zero as a float is zero. -/
theorem sitofp_zero : (FloatOps.sitofp .f32 (0#32) : Ideal .f32) = (0 : EReal) := by
  show (((0#32).toInt : ℝ) : EReal) = 0
  simp

/-- An index of a two-axis array is its two coordinates. -/
theorem split {p q : Nat} (i : (⟨2, ![p, q]⟩ : Shape).Idx) : ∃ (n : Fin p) (l : Fin q), i = ix2 n l :=
  ⟨i 0, i 1, Shape.idx_ext₂ rfl rfl⟩

/-- The batch of a flat row. -/
def bat (n : Fin 32768) : Fin 16 := ⟨n / 2048, by omega⟩
/-- The position in the sequence of a flat row. -/
def pos (n : Fin 32768) : Fin 2048 := ⟨n % 2048, by omega⟩

/-- Flattening the two leading axes: flat row `n` is position `n % 2048` of batch `n / 2048`. -/
theorem flat_apply {w : Nat} {α : Type} (x : (⟨3, ![16, 2048, w]⟩ : Shape).Idx → α)
    (h : (⟨3, ![16, 2048, w]⟩ : Shape).ShapeCasts (⟨2, ![32768, w]⟩ : Shape)) (n : Fin 32768) (l : Fin w) :
    shapeCast (⟨2, ![32768, w]⟩ : Shape) x h (ix2 n l) = x (ix3 (bat n) (pos n) l) := by
  refine shapeCast_apply x h _ _ ?_
  rw [Shape.rowMajor_val_three, Shape.rowMajor_val_two]
  have e : n.val / 2048 * 2048 + n.val % 2048 = n.val := by omega
  show ((bat n).val * 2048 + (pos n).val) * w + l.val = n.val * w + l.val
  rw [show (bat n).val * 2048 + (pos n).val = n.val from e]

end Cert.RowMath

end
-- ==== Proof.MergeTiles.lean ====
/- The spatial gating of the merge kernel: its 32 tiles of 128 rows by 128 columns, stored one by one in a scratch block
   and read back whole, are the one function `ya` of the point's blocks. -/
module

public import proofs.«01_k».proof.Proof.Gen.KernelIdeal.Value
public import proofs.«01_k».proof.Proof.RowMath
public import Idealize.ShloMosaic.Lib.Pipeline.ValueKit.Tiles

@[expose] public section

set_option maxRecDepth 16384

noncomputable section

namespace Cert.MergeProof

open Cert.KernelIdeal Cert.KernelIdeal.Gen Cert.RowMath Idealize.ShloMosaic Idealize.ShloMosaic.TcCoe

/-- Row `r`, column `l` of the gating: the column's group mixes the 128 rows of `r`'s chunk. -/
def ya (u v : Vec Ideal S512x1024 .bf16) (w : Vec Ideal S8x128x128 .bf16) (b : Vec Ideal S128x1024 .f32) (r : Fin 512)
    (l : Fin 1024) : EReal :=
  u (ix2 r l) * (∑ k : Fin 128, w (ix3 ⟨l / 128, by omega⟩ ⟨r % 128, by omega⟩ k)
    * v (ix2 ⟨r / 128 * 128 + k, by omega⟩ l) + b (ix2 ⟨r % 128, by omega⟩ l))

/-- One tile's payload at an index. -/
theorem tile_apply (w : Vec Ideal S1x128x128 .bf16) (v : Vec Ideal S128x128 .bf16) (b : Vec Ideal S128x128 .f32)
    (u : Vec Ideal S128x128 .bf16) (a d : Fin 128) :
    k0_pay2 w v b u (ix2 a d) = u (ix2 a d) * (∑ k : Fin 128, w (ix3 0 a k) * v (ix2 k d) + b (ix2 a d)) := by
  pointwise [k0_pay2]

/-- The tile at row `o`, column `p` — multiples of 128 — holds `ya`, its blocks taken as plain arrays. -/
theorem tile_ld (u v : Vec Ideal S512x1024 .bf16) (w : Vec Ideal S8x128x128 .bf16) (b : Vec Ideal S128x1024 .f32)
    (r : Fin 512) (l : Fin 1024) (q o p : Nat) (hp : p = 128 * q) (ho : o % 128 = 0)
    (i7 : ∀ a, (![q, 0, 0] : Fin 3 → Nat) a + S1x128x128.size a ≤ S8x128x128.size a)
    (i5 : ∀ a, (![o, p] : Fin 2 → Nat) a + S128x128.size a ≤ S512x1024.size a)
    (i8 : ∀ a, (![0, p] : Fin 2 → Nat) a + S128x128.size a ≤ S128x1024.size a) :
    View.TileAt (Val := Elt Ideal) (e := .bf16) (ix2 r l : S512x1024.Idx) ![o, p] S128x128.size
      (k0_pay2 (F := Ideal) (View.ld w (Rect.unit (s := S8x128x128) ![q, 0, 0] S1x128x128.size i7))
        (View.ld v (Rect.unit (s := S512x1024) ![o, p] S128x128.size i5))
        (View.ld b (Rect.unit (s := S128x1024) ![0, p] S128x128.size i8))
        (View.ld u (Rect.unit (s := S512x1024) ![o, p] S128x128.size i5)))
      (ya u v w b r l) := by
  intro x hx
  obtain ⟨a, d, rfl⟩ : ∃ a d : Fin 128, x = ix2 a d := split (p := 128) (q := 128) x
  have e0 : r.val = o + a.val := hx 0
  have e1 : l.val = p + d.val := hx 1
  have hu : ∀ z : Vec Ideal S512x1024 .bf16, ∀ (k : Fin 128) (i : Fin 512), i.val = o + k.val →
      View.ld z (Rect.unit (s := S512x1024) ![o, p] S128x128.size i5) (ix2 k d) = z (ix2 i l) := fun z k i hi =>
    View.ld_unit_apply_of z _ _ i5 (ix2 k d) (ix2 i l) (fun j => by fin_cases j; exacts [hi, e1])
  have hb : View.ld b (Rect.unit (s := S128x1024) ![0, p] S128x128.size i8) (ix2 a d) = b (ix2 ⟨r % 128, by omega⟩ l) :=
    View.ld_unit_apply_of b _ _ i8 (ix2 a d) (ix2 ⟨r % 128, by omega⟩ l) (fun j => by
      fin_cases j
      · show r.val % 128 = 0 + a.val; omega
      · exact e1)
  have hw : ∀ k : Fin 128, View.ld w (Rect.unit (s := S8x128x128) ![q, 0, 0] S1x128x128.size i7) (ix3 0 a k)
      = w (ix3 ⟨l / 128, by omega⟩ ⟨r % 128, by omega⟩ k) := fun k =>
    View.ld_unit_apply_of w _ _ i7 (ix3 0 a k) (ix3 ⟨l / 128, by omega⟩ ⟨r % 128, by omega⟩ k) (fun j => by
      fin_cases j
      · show l.val / 128 = q + 0; omega
      · show r.val % 128 = 0 + a.val; omega
      · show k.val = 0 + k.val; omega)
  refine (tile_apply _ _ _ _ a d).trans ?_
  rw [hu u a r e0, hb]
  refine congrArg (fun s => u (ix2 r l) * (s + b _)) (Finset.sum_congr rfl fun k _ => ?_)
  rw [hw, hu v k ⟨r / 128 * 128 + k, by omega⟩ (by show r.val / 128 * 128 + k.val = o + k.val; omega)]

section
variable (c : Dev nD) (arg4 : Memref sig .tc .vmem S512x1024 .bf16) (h4 : arg4.IsWhole)
  (arg5 : Memref sig .tc .vmem S512x1024 .bf16) (h5 : arg5.IsWhole)
  (arg7 : Memref sig .tc .vmem S8x128x128 .bf16) (h7 : arg7.IsWhole)
  (arg8 : Memref sig .tc .vmem S128x1024 .f32) (h8 : arg8.IsWhole) (arg17 : Memref sig .tc .vmem S512x1024 .bf16)
  (u v : Vec Ideal S512x1024 .bf16) (w : Vec Ideal S8x128x128 .bf16) (b : Vec Ideal S128x1024 .f32)

/-- The tile at row `o`, column `p` holds `ya`. -/
theorem tile_at (r : Fin 512) (l : Fin 1024) (q o p : Nat) (hp : p = 128 * q) (ho : o % 128 = 0)
    (i7 : ∀ a, (![q, 0, 0] : Fin 3 → Nat) a + S1x128x128.size a ≤ S8x128x128.size a)
    (i5 : ∀ a, (![o, p] : Fin 2 → Nat) a + S128x128.size a ≤ S512x1024.size a)
    (i8 : ∀ a, (![0, p] : Fin 2 → Nat) a + S128x128.size a ≤ S128x1024.size a) :
    View.TileAt (Val := Elt Ideal) (e := .bf16) (ix2 r l : S512x1024.Idx) ![o, p] S128x128.size
      (k0_pay2 (F := Ideal) (View.readAt (Elt Ideal) arg7.view (Rect.unit (s := S8x128x128) ![q, 0, 0] S1x128x128.size i7).toLoadRect (h7.unread w))
        (View.readAt (Elt Ideal) arg5.view (Rect.unit (s := S512x1024) ![o, p] S128x128.size i5).toLoadRect (h5.unread v))
        (View.readAt (Elt Ideal) arg8.view (Rect.unit (s := S128x1024) ![0, p] S128x128.size i8).toLoadRect (h8.unread b))
        (View.readAt (Elt Ideal) arg4.view (Rect.unit (s := S512x1024) ![o, p] S128x128.size i5).toLoadRect (h4.unread u)))
      (ya u v w b r l) := by
  rw [View.readAt_eq_ld, View.readAt_eq_ld, View.readAt_eq_ld, View.readAt_eq_ld, h7.read_unread, h5.read_unread,
    h8.read_unread, h4.read_unread]
  exact tile_ld u v w b r l q o p hp ho i7 i5 i8

/-- The scratch block read back. -/
theorem scratch_apply (r : Fin 512) (l : Fin 1024) :
    kernelRun0_A.sl.v512 c arg4 h4 arg5 h5 arg7 h7 arg8 h8 arg17 u v w b (ix2 r l) = ya u v w b r l := by
  unfold kernelRun0_A.sl.v512
  rw [View.readCov_eq_canon']
  show View.canon _ ((Rect.unit ![0, 0] S512x1024.size inb_S512x1024_S512x1024_0_0).idx (ix2 r l)) = _
  rw [show (Rect.unit ![0, 0] S512x1024.size inb_S512x1024_S512x1024_0_0).idx (ix2 r l) = (ix2 r l : S512x1024.Idx) from
    Shape.idx_ext₂ (by show 0 + 1 * r.val = r.val; omega) (by show 0 + 1 * l.val = l.val; omega)]
  refine View.canon_eq_of_allAt _ _ _ (View.cover_of_tiledL (s := S512x1024) _ (S128x128.size : Fin 2 → Nat) (by sl_kernel_rfl) _) ?_
  unfold kernelRun0_A.sl.HS0_32
  repeat refine View.allAt_cons_unit _ _ _ _ _ (tile_at arg4 h4 arg5 h5 arg7 h7 arg8 h8 u v w b r l _ _ _ (by rfl) (by rfl) _ _ _) ?_
  exact View.allAt_nil _ _

end

end Cert.MergeProof

end
-- ==== Proof.MergeBlock.lean ====
/- What one grid point of the merge kernel computes: 512 rows, each through the gating, the gated projections, the
   feed-forward and the last norm. -/
module

public import proofs.«01_k».proof.Proof.MergeTiles

@[expose] public section

set_option maxRecDepth 16384

noncomputable section

namespace Cert.MergeProof

open Cert.KernelIdeal Cert.KernelIdeal.Gen Cert.RowMath Idealize.ShloMosaic Idealize.ShloMosaic.TcCoe

/-- Reading a whole memref back gives the block it holds. -/
theorem read_all {s : Shape} {e : EltTy} {arg : Memref sig .tc .vmem s e} (h : arg.IsWhole) (x : Vec Ideal s e)
    {off : Fin s.rank → Nat} (hz : off = fun _ => 0) {hb : ∀ a, off a + s.size a ≤ s.size a} :
    View.readAt (Elt Ideal) arg.view (Rect.unit (s := s) off s.size hb).toLoadRect (h.unread x) = x := by
  rw [View.readAt_eq_ld, h.read_unread, View.ld_unit_zero hz]

/-- The residual row after the gated mixers, at an index. -/
theorem mixed_apply (s : Vec Ideal S512x1024 .bf16) (x ga gb : Vec Ideal S512x1024 .f32) (yb : Vec Ideal S512x1024 .bf16)
    (wa wb wo : Vec Ideal S1024x1024 .bf16) (r : Fin 512) (l : Fin 1024) :
    k0_pay51 (k0_pay49 s wa ga) (k0_pay50 yb wb gb) x wo (ix2 r l) = mixed (fun k => x (ix2 r k)) (fun k => ga (ix2 r k))
      (fun k => gb (ix2 r k)) (fun k => s (ix2 r k)) (fun k => yb (ix2 r k)) (fun k l => wa (ix2 k l))
      (fun k l => wb (ix2 k l)) (fun k l => wo (ix2 k l)) l := by
  unfold mixed dot
  pointwise [k0_pay51, k0_pay49, k0_pay50]

/-- The normalised row that every chunk of the feed-forward reads, at an index. -/
theorem norm_apply (a b x : Vec Ideal S512x1024 .f32) (wo : Vec Ideal S1024x1024 .bf16) (g : Vec Ideal S1x1024 .f32)
    (r : Fin 512) (l : Fin 1024) :
    k0_pay52 a b x wo g (ix2 r l) = rms (fun k => k0_pay51 a b x wo (ix2 r k)) (fun k => g (ix2 0 k)) l := by
  unfold k0_pay52
  generalize k0_pay51 a b x wo = X
  pointwise []
  rfl

/-- The last norm, at an index. -/
theorem last_apply (y : Vec Ideal S512x1024 .f32) (fg : Vec Ideal S1x1024 .f32) (s : Vec Ideal S512x1 .f32) (r : Fin 512) (l : Fin 1024)
    (hs : s (ix2 r 0) = ∑ k, y (ix2 r k) * y (ix2 r k)) :
    k0_pay1 y (k0_pay62 fg) s (ix2 r l) = rms (fun k => y (ix2 r k)) (fun k => fg (ix2 0 k)) l := by
  unfold rms
  rw [← hs]
  pointwise [k0_pay1, k0_pay62]

/-- The row sums of squares that the last norm reads. -/
theorem squares_apply (X : Vec Ideal S512x1024 .f32) (H : Vec Ideal S512x1024 .bf16) (A : Vec Ideal S512x1024 .f32)
    (P : Vec Ideal S512x256 .bf16) (D : Vec Ideal S256x1024 .bf16) (Z : Vec Ideal S512x1024 .f32)
    (w₁ w₂ : Vec Ideal S1024x256 .bf16) (d₁ : Vec Ideal S256x1024 .bf16) (w₃ w₄ : Vec Ideal S1024x256 .bf16)
    (d₂ : Vec Ideal S256x1024 .bf16) (r : Fin 512) :
    k0_pay63 X H A P D Z w₁ w₂ d₁ w₃ w₄ d₂ (ix2 r 0) = ∑ k, k0_pay61 X H A P D Z w₁ w₂ d₁ w₃ w₄ d₂ (ix2 r k)
      * k0_pay61 X H A P D Z w₁ w₂ d₁ w₃ w₄ d₂ (ix2 r k) := by
  unfold k0_pay63
  generalize k0_pay61 X H A P D Z w₁ w₂ d₁ w₃ w₄ d₂ = Y
  pointwise []

section
variable (c : Dev nD) (i : grid0.Coords)
  (arg1 : Memref sig .tc .vmem S512x1024 .f32) (h1 : arg1.IsWhole)
  (arg2 : Memref sig .tc .vmem S512x1024 .f32) (h2 : arg2.IsWhole)
  (arg3 : Memref sig .tc .vmem S512x1024 .f32) (h3 : arg3.IsWhole)
  (arg4 : Memref sig .tc .vmem S512x1024 .bf16) (h4 : arg4.IsWhole)
  (arg5 : Memref sig .tc .vmem S512x1024 .bf16) (h5 : arg5.IsWhole)
  (arg6 : Memref sig .tc .vmem S512x1024 .bf16) (h6 : arg6.IsWhole)
  (arg7 : Memref sig .tc .vmem S8x128x128 .bf16) (h7 : arg7.IsWhole)
  (arg8 : Memref sig .tc .vmem S128x1024 .f32) (h8 : arg8.IsWhole)
  (arg9 : Memref sig .tc .vmem S1024x1024 .bf16) (h9 : arg9.IsWhole)
  (arg10 : Memref sig .tc .vmem S1024x1024 .bf16) (h10 : arg10.IsWhole)
  (arg11 : Memref sig .tc .vmem S1024x1024 .bf16) (h11 : arg11.IsWhole)
  (arg12 : Memref sig .tc .vmem S1x1024 .f32) (h12 : arg12.IsWhole)
  (arg13 : Memref sig .tc .vmem S1024x5632 .bf16) (h13 : arg13.IsWhole)
  (arg14 : Memref sig .tc .vmem S2816x1024 .bf16) (h14 : arg14.IsWhole)
  (arg15 : Memref sig .tc .vmem S1x1024 .f32) (h15 : arg15.IsWhole)
  (arg16 : Memref sig .tc .vmem S512x1024 .f32) (h16 : arg16.IsWhole)
  (arg17 : Memref sig .tc .vmem S512x1024 .bf16) (h17 : arg17.IsWhole)
  (x : Vec Ideal S512x1024 .f32) (ga : Vec Ideal S512x1024 .f32) (gb : Vec Ideal S512x1024 .f32) (u : Vec Ideal S512x1024 .bf16) (v : Vec Ideal S512x1024 .bf16) (yb : Vec Ideal S512x1024 .bf16) (ws : Vec Ideal S8x128x128 .bf16) (b : Vec Ideal S128x1024 .f32) (wa : Vec Ideal S1024x1024 .bf16) (wb : Vec Ideal S1024x1024 .bf16) (wo : Vec Ideal S1024x1024 .bf16) (g : Vec Ideal S1x1024 .f32) (w : Vec Ideal S1024x5632 .bf16) (d : Vec Ideal S2816x1024 .bf16) (fg : Vec Ideal S1x1024 .f32)

set_option maxHeartbeats 1000000 in
/-- The block that a point writes, at an index. -/
theorem out_apply (r : Fin 512) (l : Fin 1024) :
    out0_A_15 c i arg1 h1 arg2 h2 arg3 h3 arg4 h4 arg5 h5 arg6 h6 arg7 h7 arg8 h8 arg9 h9 arg10 h10 arg11 h11 arg12 h12 arg13 h13 arg14 h14 arg15 h15 arg16 h16 arg17 h17 x ga gb u v yb ws b wa wb wo g w d fg (ix2 r l)
      = rms (ffn (mixed (fun k => x (ix2 r k)) (fun k => ga (ix2 r k)) (fun k => gb (ix2 r k)) (ya u v ws b r)
          (fun k => yb (ix2 r k)) (fun k l => wa (ix2 k l)) (fun k l => wb (ix2 k l)) (fun k l => wo (ix2 k l)))
        (fun k => g (ix2 0 k)) (fun c k => w (ix2 c k)) (fun k l => d (ix2 k l))) (fun k => fg (ix2 0 k)) l := by
  unfold out0_A_15
  rw [View.read_writes_junk_eq_canon]
  unfold kernelRun0_A
  dsimp only
  rw [View.canon_unit_zero (by decide)]
  unfold kernelRun0_A.sl.r_30 kernelRun0_A.sl.r_29 kernelRun0_A.sl.r_28
  refine (last_apply _ _ _ r l (squares_apply _ _ _ _ _ _ _ _ _ _ _ _ r)).trans ?_
  rw [read_all h15 fg (by decide)]
  refine congrArg (fun p => rms p (fun k => fg (ix2 0 k)) l) (funext fun l => ?_)
  unfold kernelRun0_A.sl.r_27 kernelRun0_A.sl.r_26 kernelRun0_A.sl.r_25 kernelRun0_A.sl.r_24 kernelRun0_A.sl.r_23
    kernelRun0_A.sl.r_22 kernelRun0_A.sl.r_21 kernelRun0_A.sl.r_20 kernelRun0_A.sl.r_19 kernelRun0_A.sl.r_18
    kernelRun0_A.sl.r_17 kernelRun0_A.sl.r_16 kernelRun0_A.sl.cst_459
  rw [read_all h1 x (by decide), read_all h2 ga (by decide), read_all h3 gb (by decide), read_all h6 yb (by decide),
    read_all h9 wa (by decide), read_all h10 wb (by decide), read_all h11 wo (by decide), read_all h12 g (by decide)]
  simp only [View.readAt_eq_ld, Memref.IsWhole.read_unread]
  have hs : ya u v ws b r = fun k => kernelRun0_A.sl.v512 c arg4 h4 arg5 h5 arg7 h7 arg8 h8 arg17 u v ws b (ix2 r k) :=
    funext fun k => (scratch_apply c arg4 h4 arg5 h5 arg7 h7 arg8 h8 arg17 u v ws b r k).symm
  rw [hs]
  generalize kernelRun0_A.sl.v512 c arg4 h4 arg5 h5 arg7 h7 arg8 h8 arg17 u v ws b = S
  have hm : mixed (fun k => x (ix2 r k)) (fun k => ga (ix2 r k)) (fun k => gb (ix2 r k)) (fun k => S (ix2 r k))
      (fun k => yb (ix2 r k)) (fun k l => wa (ix2 k l)) (fun k l => wb (ix2 k l)) (fun k l => wo (ix2 k l))
      = fun k => k0_pay51 (k0_pay49 S wa ga) (k0_pay50 yb wb gb) x wo (ix2 r k) :=
    funext fun k => (mixed_apply S x ga gb yb wa wb wo r k).symm
  rw [hm]
  generalize k0_pay49 S wa ga = A
  generalize k0_pay50 yb wb gb = B
  have hn : rms (fun k => k0_pay51 A B x wo (ix2 r k)) (fun k => g (ix2 0 k)) = fun k => k0_pay52 A B x wo g (ix2 r k) :=
    funext fun k => (norm_apply A B x wo g r k).symm
  unfold ffn
  rw [hn, sum_eleven]
  simp only [gated, dot, ← Nat.add_assoc, Nat.reduceAdd]
  unfold k0_pay53
  generalize k0_pay52 A B x wo g = H at *
  generalize k0_pay51 A B x wo = X at *
  pointwise [k0_pay54, k0_pay55, k0_pay56, k0_pay57, k0_pay58, k0_pay59, k0_pay60, k0_pay61]

end

end Cert.MergeProof

end
-- ==== Proof.MergeEntry.lean ====
/- The merge kernel's operand arrays as the region finds them: the activations flattened, the gating's mixing matrices
   masked, its bias repeated over the columns of a group, the weights as given. -/
module

public import proofs.«01_k».proof.Proof.Gen.KernelIdeal.Value
public import proofs.«01_k».proof.Proof.RowMath

@[expose] public section

set_option maxRecDepth 16384

noncomputable section

namespace Cert.MergeProof

open Cert.KernelIdeal Cert.KernelIdeal.Gen Cert.RowMath Idealize.ShloMosaic Idealize.ShloMosaic.TcCoe

/-- The mixing matrices with zeros above the diagonal. -/
def masked (w : Vec Ideal S8x128x128 .f32) : Vec Ideal S8x128x128 .f32 :=
  select (broadcastInDim S8x128x128 ![1, 2] bcast_S128x128_S8x128x128_1_2
      (select (cmpi .sge (addi (iotaInDim S128x128 32 0) (broadcastInDim S128x128 ![] bcast_S_S128x128 (constantI S_ 32 0#32)))
          (iotaInDim S128x128 32 1))
        (broadcastInDim S128x128 ![] bcast_S_S128x128 (constantI S_ 1 1#1))
        (broadcastInDim S128x128 ![] bcast_S_S128x128 (constantI S_ 1 0#1)))) w
    (broadcastInDim S8x128x128 ![] bcast_S_S8x128x128 (sitofp (F := Ideal) .f32 (constantI S_ 32 0#32)))

variable (m : (ℓ : Loc nD τ sig) → Buf (Elt Ideal) ℓ)

/-- The two arrays that the host works out: the masked mixing matrices and the repeated bias. -/
theorem V_gating (c : Dev nD) : V m c main_v3 = masked (m ((c : Thread nD τ).loc main_arg6))
    ∧ V m c main_v6 = shapeCast S128x1024 (broadcastInDim S128x8x128 ![0, 1] bcast_S128x8_S128x8x128_0_1
      (transpose S128x8 [1, 0] (m ((c : Thread nD τ).loc main_arg7)) transposes_S8x128_S128x8_1_0))
      shapeCasts_S128x8x128_S128x1024 := by
  constructor
  all_goals
    simp only [V, hostOps0, hostOps0_1, hostOps0_2, hostOps0_3, hostOps0_4, StableHlo.TRef.binary, StableHlo.TRef.nullary,
      StableHlo.TRef.ternary, StableHlo.TRef.unary, StableHlo.TRef.toBuf, StableHlo.TRef.ofBuf, cast_eq, List.flatten_cons,
      List.flatten_nil, List.append_nil, List.cons_append, List.nil_append]
    after_results_simp <;> rfl

/-- The activations are the arguments, flattened. -/
theorem V_flat (c : Dev nD) : V m c main_v7 = shapeCast S32768x1024 (m ((c : Thread nD τ).loc main_arg0)) shapeCasts_S16x2048x1024_S32768x1024
    ∧ V m c main_v8 = shapeCast S32768x1024 (m ((c : Thread nD τ).loc main_arg1)) shapeCasts_S16x2048x1024_S32768x1024
    ∧ V m c main_v9 = shapeCast S32768x1024 (m ((c : Thread nD τ).loc main_arg2)) shapeCasts_S16x2048x1024_S32768x1024
    ∧ V m c main_v10 = shapeCast S32768x1024 (m ((c : Thread nD τ).loc main_arg3)) shapeCasts_S16x2048x1024_S32768x1024
    ∧ V m c main_v11 = shapeCast S32768x1024 (m ((c : Thread nD τ).loc main_arg4)) shapeCasts_S16x2048x1024_S32768x1024
    ∧ V m c main_v12 = shapeCast S32768x1024 (m ((c : Thread nD τ).loc main_arg5)) shapeCasts_S16x2048x1024_S32768x1024 := by
  refine ⟨?_, ?_, ?_, ?_, ?_, ?_⟩
  all_goals
    simp only [V, hostOps0, hostOps0_1, hostOps0_2, hostOps0_3, hostOps0_4, StableHlo.TRef.binary, StableHlo.TRef.nullary,
      StableHlo.TRef.ternary, StableHlo.TRef.unary, StableHlo.TRef.toBuf, StableHlo.TRef.ofBuf, cast_eq, List.flatten_cons,
      List.flatten_nil, List.append_nil, List.cons_append, List.nil_append]
    after_results_simp <;> rfl

/-- The weights are the arguments. -/
theorem V_weights (c : Dev nD) : V m c main_v13 = (m ((c : Thread nD τ).loc main_arg8) : Vec Ideal S1024x1024 .f32)
    ∧ V m c main_v14 = (m ((c : Thread nD τ).loc main_arg9) : Vec Ideal S1024x1024 .f32)
    ∧ V m c main_v15 = (m ((c : Thread nD τ).loc main_arg10) : Vec Ideal S1024x1024 .f32)
    ∧ V m c main_v16 = (m ((c : Thread nD τ).loc main_arg12) : Vec Ideal S1024x5632 .f32)
    ∧ V m c main_v17 = (m ((c : Thread nD τ).loc main_arg13) : Vec Ideal S2816x1024 .f32) := by
  refine ⟨?_, ?_, ?_, ?_, ?_⟩
  all_goals
    simp only [V, hostOps0, hostOps0_1, hostOps0_2, hostOps0_3, hostOps0_4, StableHlo.TRef.binary, StableHlo.TRef.nullary,
      StableHlo.TRef.ternary, StableHlo.TRef.unary, StableHlo.TRef.toBuf, StableHlo.TRef.ofBuf, cast_eq, List.flatten_cons,
      List.flatten_nil, List.append_nil, List.cons_append, List.nil_append]
    after_results_simp <;> rfl

/-- The two gains are the arguments, as one row. -/
theorem V_gains (c : Dev nD) : V m c main_v18 = shapeCast S1x1024 (m ((c : Thread nD τ).loc main_arg11)) shapeCasts_S1024_S1x1024
    ∧ V m c main_v19 = shapeCast S1x1024 (m ((c : Thread nD τ).loc main_arg14)) shapeCasts_S1024_S1x1024 := by
  constructor
  all_goals
    simp only [V, hostOps0, hostOps0_1, hostOps0_2, hostOps0_3, hostOps0_4, StableHlo.TRef.binary, StableHlo.TRef.nullary,
      StableHlo.TRef.ternary, StableHlo.TRef.unary, StableHlo.TRef.toBuf, StableHlo.TRef.ofBuf, cast_eq, List.flatten_cons,
      List.flatten_nil, List.append_nil, List.cons_append, List.nil_append]
    after_results_simp <;> rfl

/-- Row `t` of the repeated bias: a column's group's bias. -/
theorem V_b (c : Dev nD) (t : Fin 128) (l : Fin 1024) :
    V m c main_v6 (ix2 t l) = m ((c : Thread nD τ).loc main_arg7) (ix2 ⟨l / 128, by omega⟩ t) := by
  rw [(V_gating m c).2]
  refine (shapeCast_apply _ shapeCasts_S128x8x128_S128x1024 _ (ix3 t (⟨l / 128, by omega⟩ : Fin 8) (⟨l % 128, by omega⟩ : Fin 128)) ?_).trans ?_
  · rw [Shape.rowMajor_val_three, Shape.rowMajor_val_two]
    show (t.val * 8 + l.val / 128) * 128 + l.val % 128 = t.val * 1024 + l.val
    omega
  · pointwise

end Cert.MergeProof

end
-- ==== Proof.MergeArray.lean ====
/- The merge kernel's result array: point `t` writes the rows from `512 * t` on, the 64 points cover it. -/
module

public import proofs.«01_k».proof.Proof.MergeBlock
public import proofs.«01_k».proof.Proof.MergeEntry

@[expose] public section

set_option maxRecDepth 16384

noncomputable section

namespace Cert.MergeProof

open Cert.KernelIdeal Cert.KernelIdeal.Gen Cert.KernelIdeal.Value Cert.RowMath Idealize.ShloMosaic
  Idealize.ShloMosaic.TcCoe Idealize.SL.Sem

/-! ## The result as a function of the arguments -/

/-- Flat row `n` of an activation. -/
def frow (x : (⟨3, ![16, 2048, 1024]⟩ : Shape).Idx → EReal) (n : Fin 32768) (l : Fin 1024) : EReal :=
  x (ix3 (bat n) (pos n) l)

/-- The gating of flat row `n`: the column's group mixes the 128 rows of `n`'s chunk. -/
def gating (u v : (⟨3, ![16, 2048, 1024]⟩ : Shape).Idx → EReal) (w : (⟨3, ![8, 128, 128]⟩ : Shape).Idx → EReal)
    (b : (⟨2, ![8, 128]⟩ : Shape).Idx → EReal) (n : Fin 32768) (l : Fin 1024) : EReal :=
  u (ix3 (bat n) (pos n) l) * (∑ k : Fin 128, w (ix3 ⟨l / 128, by omega⟩ ⟨n % 128, by omega⟩ k)
    * v (ix3 (bat n) ⟨(pos n).val / 128 * 128 + k, by omega⟩ l) + b (ix2 ⟨l / 128, by omega⟩ ⟨n % 128, by omega⟩))

/-- Flat row `n` of the result. -/
def merged (x ga gb u v yb : (⟨3, ![16, 2048, 1024]⟩ : Shape).Idx → EReal) (w : (⟨3, ![8, 128, 128]⟩ : Shape).Idx → EReal)
    (b : (⟨2, ![8, 128]⟩ : Shape).Idx → EReal) (wa wb wo : (⟨2, ![1024, 1024]⟩ : Shape).Idx → EReal)
    (g : (⟨1, ![1024]⟩ : Shape).Idx → EReal) (wgu : (⟨2, ![1024, 5632]⟩ : Shape).Idx → EReal)
    (wd : (⟨2, ![2816, 1024]⟩ : Shape).Idx → EReal) (fg : (⟨1, ![1024]⟩ : Shape).Idx → EReal) (n : Fin 32768) : Fin 1024 → EReal :=
  rms (ffn (mixed (frow x n) (frow ga n) (frow gb n) (gating u v w b n) (frow yb n) (fun k l => wa (ix2 k l))
    (fun k l => wb (ix2 k l)) (fun k l => wo (ix2 k l))) (fun k => g (ix1 k)) (fun c k => wgu (ix2 c k))
    (fun k l => wd (ix2 k l))) (fun k => fg (ix1 k))

/-- A function of row and column as an array. -/
def arr {p q : Nat} (f : Fin p → Fin q → EReal) : (⟨2, ![p, q]⟩ : Shape).Idx → EReal := fun i => f (i 0) (i 1)

/-! ## Where each window's block lies -/

/-- Flat row `512 * t + r`. -/
def row (t : Fin cfg0.N) (r : Fin 512) : Fin 32768 := ⟨t.val * 512 + r, by have : t.val < 64 := t.isLt; omega⟩

/-- Every flat row is some point's. -/
theorem row_surj (n : Fin 32768) : ∃ (t : Fin cfg0.N) (r : Fin 512), n = row t r :=
  ⟨⟨n.val / 512, by show _ < 64; omega⟩, ⟨n.val % 512, by omega⟩, Fin.ext (by
    show n.val = n.val / 512 * 512 + n.val % 512; omega)⟩

/-- The activations' windows, and the result's, move with the point. -/
theorem index_row : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_15.index t (0 : Fin 2) = t.val ∧ win0_15.index t (1 : Fin 2) = 0) :=
  (by decide +kernel : ∀ t : Fin grid0.N, _)

/-- Every other window stays at block zero. -/
theorem index_all : ∀ t : Fin cfg0.N, (win0_6.index t (0 : Fin 3) = 0 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-- An index of a two-axis array from its two coordinates, the first moved by whole blocks of `d` rows. -/
theorem idx_of {p q : Nat} (i : (⟨2, ![p, q]⟩ : Shape).Idx) (n : Fin p) (l : Fin q) {k d r u v : Nat} (ku : k = u)
    (h0 : (i 0).val = k * d + 1 * r) (hn : n.val = u * d + r) {e : Nat} (he : e = 0) (h1 : (i 1).val = e * v + 1 * l.val) :
    i = ix2 n l := by
  subst ku he
  exact Shape.idx_ext₂ (by show (i 0).val = n.val; omega) (by show (i 1).val = l.val; omega)

theorem emb0 (t : Fin cfg0.N) (r : Fin 512) (l : Fin 1024) : ((cfg0.win 0).blk t).view.emb (ix2 r l) = ix2 (row t r) l :=
  idx_of _ _ l (index_row t).1.1 rfl rfl (index_row t).1.2 rfl

theorem emb1 (t : Fin cfg0.N) (r : Fin 512) (l : Fin 1024) : ((cfg0.win 1).blk t).view.emb (ix2 r l) = ix2 (row t r) l :=
  idx_of _ _ l (index_row t).2.1.1 rfl rfl (index_row t).2.1.2 rfl

theorem emb2 (t : Fin cfg0.N) (r : Fin 512) (l : Fin 1024) : ((cfg0.win 2).blk t).view.emb (ix2 r l) = ix2 (row t r) l :=
  idx_of _ _ l (index_row t).2.2.1.1 rfl rfl (index_row t).2.2.1.2 rfl

theorem emb3 (t : Fin cfg0.N) (r : Fin 512) (l : Fin 1024) : ((cfg0.win 3).blk t).view.emb (ix2 r l) = ix2 (row t r) l :=
  idx_of _ _ l (index_row t).2.2.2.1.1 rfl rfl (index_row t).2.2.2.1.2 rfl

theorem emb4 (t : Fin cfg0.N) (r : Fin 512) (l : Fin 1024) : ((cfg0.win 4).blk t).view.emb (ix2 r l) = ix2 (row t r) l :=
  idx_of _ _ l (index_row t).2.2.2.2.1.1 rfl rfl (index_row t).2.2.2.2.1.2 rfl

theorem emb5 (t : Fin cfg0.N) (r : Fin 512) (l : Fin 1024) : ((cfg0.win 5).blk t).view.emb (ix2 r l) = ix2 (row t r) l :=
  idx_of _ _ l (index_row t).2.2.2.2.2.1.1 rfl rfl (index_row t).2.2.2.2.2.1.2 rfl

theorem emb15 (t : Fin cfg0.N) (r : Fin 512) (l : Fin 1024) : ((cfg0.win 15).blk t).view.emb (ix2 r l) = ix2 (row t r) l :=
  idx_of _ _ l (index_row t).2.2.2.2.2.2.1 rfl rfl (index_row t).2.2.2.2.2.2.2 rfl

theorem emb7 (t : Fin cfg0.N) (r : Fin 128) (l : Fin 1024) : ((cfg0.win 7).blk t).view.emb (ix2 r l) = ix2 r l :=
  idx_of _ _ l (d := 128) (r := r) (index_all t).2.1.1 rfl (by omega) (index_all t).2.1.2 rfl

theorem emb8 (t : Fin cfg0.N) (r : Fin 1024) (l : Fin 1024) : ((cfg0.win 8).blk t).view.emb (ix2 r l) = ix2 r l :=
  idx_of _ _ l (d := 1024) (r := r) (index_all t).2.2.1.1 rfl (by omega) (index_all t).2.2.1.2 rfl

theorem emb9 (t : Fin cfg0.N) (r : Fin 1024) (l : Fin 1024) : ((cfg0.win 9).blk t).view.emb (ix2 r l) = ix2 r l :=
  idx_of _ _ l (d := 1024) (r := r) (index_all t).2.2.2.1.1 rfl (by omega) (index_all t).2.2.2.1.2 rfl

theorem emb10 (t : Fin cfg0.N) (r : Fin 1024) (l : Fin 1024) : ((cfg0.win 10).blk t).view.emb (ix2 r l) = ix2 r l :=
  idx_of _ _ l (d := 1024) (r := r) (index_all t).2.2.2.2.1.1 rfl (by omega) (index_all t).2.2.2.2.1.2 rfl

theorem emb11 (t : Fin cfg0.N) (l : Fin 1024) : ((cfg0.win 11).blk t).view.emb (ix2 (0 : Fin 1) l) = ix2 (0 : Fin 1) l :=
  idx_of _ _ l (d := 1) (index_all t).2.2.2.2.2.1.1 rfl rfl (index_all t).2.2.2.2.2.1.2 rfl

theorem emb12 (t : Fin cfg0.N) (r : Fin 1024) (l : Fin 5632) : ((cfg0.win 12).blk t).view.emb (ix2 r l) = ix2 r l :=
  idx_of _ _ l (d := 1024) (r := r) (index_all t).2.2.2.2.2.2.1.1 rfl (by omega) (index_all t).2.2.2.2.2.2.1.2 rfl

theorem emb13 (t : Fin cfg0.N) (r : Fin 2816) (l : Fin 1024) : ((cfg0.win 13).blk t).view.emb (ix2 r l) = ix2 r l :=
  idx_of _ _ l (d := 2816) (r := r) (index_all t).2.2.2.2.2.2.2.1.1 rfl (by omega) (index_all t).2.2.2.2.2.2.2.1.2 rfl

theorem emb14 (t : Fin cfg0.N) (l : Fin 1024) : ((cfg0.win 14).blk t).view.emb (ix2 (0 : Fin 1) l) = ix2 (0 : Fin 1) l :=
  idx_of _ _ l (d := 1) (index_all t).2.2.2.2.2.2.2.2.1 rfl rfl (index_all t).2.2.2.2.2.2.2.2.2 rfl

theorem emb6 (t : Fin cfg0.N) (g : Fin 8) (a b : Fin 128) : ((cfg0.win 6).blk t).view.emb (ix3 g a b) = ix3 g a b := by
  obtain ⟨h0, h1, h2⟩ := (index_all t).1
  funext j
  fin_cases j
  · exact Fin.ext (by show win0_6.index t (0 : Fin 3) * 8 + 1 * g.val = g.val; omega)
  · exact Fin.ext (by show win0_6.index t (1 : Fin 3) * 128 + 1 * a.val = a.val; omega)
  · exact Fin.ext (by show win0_6.index t (2 : Fin 3) * 128 + 1 * b.val = b.val; omega)

/-! ## The input blocks, and what the output block holds -/

section
variable (m : (ℓ : Loc nD τ sig) → Buf (Elt Ideal) ℓ) (c : Dev nD) (t : Fin cfg0.N)

abbrev aX : Vec Ideal S16x2048x1024 .f32 := m ((c : Thread nD τ).loc main_arg0)
abbrev aGa : Vec Ideal S16x2048x1024 .f32 := m ((c : Thread nD τ).loc main_arg1)
abbrev aGb : Vec Ideal S16x2048x1024 .f32 := m ((c : Thread nD τ).loc main_arg2)
abbrev aU : Vec Ideal S16x2048x1024 .bf16 := m ((c : Thread nD τ).loc main_arg3)
abbrev aV : Vec Ideal S16x2048x1024 .bf16 := m ((c : Thread nD τ).loc main_arg4)
abbrev aY : Vec Ideal S16x2048x1024 .bf16 := m ((c : Thread nD τ).loc main_arg5)
abbrev aWs : Vec Ideal S8x128x128 .f32 := m ((c : Thread nD τ).loc main_arg6)
abbrev aBs : Vec Ideal S8x128 .f32 := m ((c : Thread nD τ).loc main_arg7)
abbrev aWa : Vec Ideal S1024x1024 .f32 := m ((c : Thread nD τ).loc main_arg8)
abbrev aWb : Vec Ideal S1024x1024 .f32 := m ((c : Thread nD τ).loc main_arg9)
abbrev aWo : Vec Ideal S1024x1024 .f32 := m ((c : Thread nD τ).loc main_arg10)
abbrev aG : Vec Ideal S1024 .f32 := m ((c : Thread nD τ).loc main_arg11)
abbrev aWg : Vec Ideal S1024x5632 .f32 := m ((c : Thread nD τ).loc main_arg12)
abbrev aWd : Vec Ideal S2816x1024 .f32 := m ((c : Thread nD τ).loc main_arg13)
abbrev aFg : Vec Ideal S1024 .f32 := m ((c : Thread nD τ).loc main_arg14)

/-- The result of core `c`'s arguments. -/
abbrev res : Fin 32768 → Fin 1024 → EReal := merged (aX m c) (aGa m c) (aGb m c) (aU m c) (aV m c) (aY m c) (masked (aWs m c))
  (aBs m c) (aWa m c) (aWb m c) (aWo m c) (aG m c) (aWg m c) (aWd m c) (aFg m c)

theorem blk0 (r : Fin 512) (k : Fin 1024) : iblk m c 0 t (ix2 r k) = frow (aX m c) (row t r) k := by
  show V m c main_v7 (((cfg0.win 0).blk t).view.emb (ix2 r k)) = _
  rw [emb0, (V_flat m c).1]
  exact flat_apply (w := 1024) _ _ (row t r) k

theorem blk1 (r : Fin 512) (k : Fin 1024) : iblk m c 1 t (ix2 r k) = frow (aGa m c) (row t r) k := by
  show V m c main_v8 (((cfg0.win 1).blk t).view.emb (ix2 r k)) = _
  rw [emb1, (V_flat m c).2.1]
  exact flat_apply (w := 1024) _ _ (row t r) k

theorem blk2 (r : Fin 512) (k : Fin 1024) : iblk m c 2 t (ix2 r k) = frow (aGb m c) (row t r) k := by
  show V m c main_v9 (((cfg0.win 2).blk t).view.emb (ix2 r k)) = _
  rw [emb2, (V_flat m c).2.2.1]
  exact flat_apply (w := 1024) _ _ (row t r) k

theorem blk3 (r : Fin 512) (k : Fin 1024) : iblk m c 3 t (ix2 r k) = frow (aU m c) (row t r) k := by
  show V m c main_v10 (((cfg0.win 3).blk t).view.emb (ix2 r k)) = _
  rw [emb3, (V_flat m c).2.2.2.1]
  exact flat_apply (w := 1024) _ _ (row t r) k

theorem blk4 (r : Fin 512) (k : Fin 1024) : iblk m c 4 t (ix2 r k) = frow (aV m c) (row t r) k := by
  show V m c main_v11 (((cfg0.win 4).blk t).view.emb (ix2 r k)) = _
  rw [emb4, (V_flat m c).2.2.2.2.1]
  exact flat_apply (w := 1024) _ _ (row t r) k

theorem blk5 (r : Fin 512) (k : Fin 1024) : iblk m c 5 t (ix2 r k) = frow (aY m c) (row t r) k := by
  show V m c main_v12 (((cfg0.win 5).blk t).view.emb (ix2 r k)) = _
  rw [emb5, (V_flat m c).2.2.2.2.2]
  exact flat_apply (w := 1024) _ _ (row t r) k

theorem blk6 (g : Fin 8) (a b : Fin 128) : iblk m c 6 t (ix3 g a b) = masked (aWs m c) (ix3 g a b) := by
  show V m c main_v3 (((cfg0.win 6).blk t).view.emb (ix3 g a b)) = _
  rw [emb6, (V_gating m c).1]

theorem blk7 (a : Fin 128) (l : Fin 1024) : iblk m c 7 t (ix2 a l) = aBs m c (ix2 ⟨l / 128, by omega⟩ a) := by
  show V m c main_v6 (((cfg0.win 7).blk t).view.emb (ix2 a l)) = _
  rw [emb7, V_b]

theorem blk8 (r : Fin 1024) (k : Fin 1024) : iblk m c 8 t (ix2 r k) = aWa m c (ix2 r k) := by
  show V m c main_v13 (((cfg0.win 8).blk t).view.emb (ix2 r k)) = _
  rw [emb8, (V_weights m c).1]

theorem blk9 (r : Fin 1024) (k : Fin 1024) : iblk m c 9 t (ix2 r k) = aWb m c (ix2 r k) := by
  show V m c main_v14 (((cfg0.win 9).blk t).view.emb (ix2 r k)) = _
  rw [emb9, (V_weights m c).2.1]

theorem blk10 (r : Fin 1024) (k : Fin 1024) : iblk m c 10 t (ix2 r k) = aWo m c (ix2 r k) := by
  show V m c main_v15 (((cfg0.win 10).blk t).view.emb (ix2 r k)) = _
  rw [emb10, (V_weights m c).2.2.1]

theorem blk12 (r : Fin 1024) (k : Fin 5632) : iblk m c 12 t (ix2 r k) = aWg m c (ix2 r k) := by
  show V m c main_v16 (((cfg0.win 12).blk t).view.emb (ix2 r k)) = _
  rw [emb12, (V_weights m c).2.2.2.1]

theorem blk13 (r : Fin 2816) (k : Fin 1024) : iblk m c 13 t (ix2 r k) = aWd m c (ix2 r k) := by
  show V m c main_v17 (((cfg0.win 13).blk t).view.emb (ix2 r k)) = _
  rw [emb13, (V_weights m c).2.2.2.2]

theorem blk11 (k : Fin 1024) : iblk m c 11 t (ix2 (0 : Fin 1) k) = aG m c (ix1 k) := by
  show V m c main_v18 (((cfg0.win 11).blk t).view.emb (ix2 (0 : Fin 1) k)) = _
  rw [emb11, (V_gains m c).1]
  pointwise

theorem blk14 (k : Fin 1024) : iblk m c 14 t (ix2 (0 : Fin 1) k) = aFg m c (ix1 k) := by
  show V m c main_v19 (((cfg0.win 14).blk t).view.emb (ix2 (0 : Fin 1) k)) = _
  rw [emb14, (V_gains m c).2]
  pointwise

/-- The block's gating is the flat rows'. -/
theorem gating_eq (r : Fin 512) : ya (iblk m c 3 t) (iblk m c 4 t) (iblk m c 6 t) (iblk m c 7 t) r
    = gating (aU m c) (aV m c) (masked (aWs m c)) (aBs m c) (row t r) := by
  funext l
  unfold ya gating
  simp only [blk3, blk4, blk6, blk7, frow]
  have ht : t.val < 64 := t.isLt
  have e : ∀ h, (⟨r.val % 128, h⟩ : Fin 128) = ⟨(row t r).val % 128, by omega⟩ := fun _ => Fin.ext (by
    show r.val % 128 = (t.val * 512 + r.val) % 128; omega)
  simp only [e]
  refine congrArg₂ (· * ·) rfl (congrArg₂ (· + ·) (Finset.sum_congr rfl fun k _ => congrArg₂ (· * ·) rfl ?_) rfl)
  refine congrArg (aV m c) (congrArg₂ (fun a b => ix3 a b l) (Fin.ext ?_) (Fin.ext ?_))
  · show (t.val * 512 + (r.val / 128 * 128 + k.val)) / 2048 = (t.val * 512 + r.val) / 2048
    omega
  · show (t.val * 512 + (r.val / 128 * 128 + k.val)) % 2048 = (t.val * 512 + r.val) % 2048 / 128 * 128 + k.val
    omega

theorem flush15 : (dats m 0 c).flushed 15 t = ((cfg0.win 15).blk t).view.read (Elt Ideal) (arr (res m c)) := by
  rw [flushed15_A]
  funext j
  obtain ⟨r, l, rfl⟩ := split j
  show out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r l)
    = arr (res m c) (((cfg0.win 15).blk t).view.emb (ix2 r l))
  rw [out_apply, emb15, gating_eq]
  simp only [blk0, blk1, blk2, blk5, blk8, blk9, blk10, blk11, blk12, blk13, blk14]
  rfl

/-- The result array after the run. -/
theorem final15 : (dats m 0 c).arrAt 15 cfg0.N = arr (res m c) :=
  (dats m 0 c).arrAt_eq_of_cover 15 _ (fun t _ => flush15 m c t) fun i => by
    obtain ⟨n, l, rfl⟩ := split i
    obtain ⟨t, r, rfl⟩ := row_surj n
    exact ⟨t, flush0_15 _, emb15 t r l ▸ ((cfg0.win 15).blk t).view.emb_mem_set (ix2 r l)⟩

end

end Cert.MergeProof

end
-- ==== Proof.FfnRef.lean ====
/- The feed-forward reference's result, read at an index: `RowMath.ffn` of the argument's row. -/
module

public import proofs.«01_k».proof.Proof.Gen.FfnReferenceIdeal.Run
public import proofs.«01_k».proof.Proof.RowMath

@[expose] public section

set_option maxRecDepth 16384

noncomputable section

namespace Cert.FfnRefProof

open Cert.FfnReferenceIdeal Cert.FfnReferenceIdeal.Gen Cert.RowMath Idealize.ShloMosaic Idealize.ShloMosaic.TcCoe
  Idealize.SL.Sem

/-- The normalised rows. -/
def norm (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2
    (Host.rsqrt (addf (Host.divf (broadcastInDim S16x2048x1 ![0, 1] bcast_S16x2048_S16x2048x1_0_1
      (Host.reduceAdd (mulf x x) (constant S_ .f32 0x00000000#32) reducesTo_S16x2048x1024_S16x2048_d2 h_S_))
      (broadcastInDim S16x2048x1 ![] bcast_S_S16x2048x1 (constant S_ .f32 0x44800000#32)))
      (broadcastInDim S16x2048x1 ![] bcast_S_S16x2048x1 (constant S_ .f32 0x358637BD#32))))))
    (broadcastInDim S16x2048x1024 ![0, 1, 2] bcast_S1x1x1024_S16x2048x1024_0_1_2
      (broadcastInDim S1x1x1024 ![2] bcast_S1024_S1x1x1024_2 g))

theorem norm_apply (x : FVec Ideal S16x2048x1024 .f32) (g : FVec Ideal S1024 .f32) (b : Fin 16) (t : Fin 2048)
    (l : Fin 1024) : norm x g (ix3 b t l) = rms (fun k => x (ix3 b t k)) (fun k => g (ix1 k)) l := by
  pointwise [norm]
  rfl

/-- The rows times the first weight matrix: the gate's half and the value's half. -/
def up (h : FVec Ideal S16x2048x1024 .f32) (w : FVec Ideal S1024x5632 .f32) : FVec Ideal S16x2048x5632 .f32 :=
  Host.dotGeneral dot_S16x2048x1024_S1024x5632_S16x2048x5632_2_0_01_1_n_n none h w

theorem up_apply (h : FVec Ideal S16x2048x1024 .f32) (w : FVec Ideal S1024x5632 .f32) (b : Fin 16) (t : Fin 2048)
    (k : Fin 5632) : up h w (ix3 b t k) = dot (fun c => h (ix3 b t c)) (fun c k => w (ix2 c k)) k := by
  pointwise [up]
  rfl

/-- `silu` of the gate's half times the value's half. -/
def act (u : FVec Ideal S16x2048x5632 .f32) : FVec Ideal S16x2048x2816 .f32 :=
  mulf (mulf (extractStridedSlice S16x2048x2816 ![0, 0, 0] u slices_S16x2048x5632_S16x2048x2816_0_0_0)
    (Host.divf (broadcastInDim S16x2048x2816 ![] bcast_S_S16x2048x2816 (constant S_ .f32 0x3F800000#32))
      (addf (broadcastInDim S16x2048x2816 ![] bcast_S_S16x2048x2816 (constant S_ .f32 0x3F800000#32))
        (Host.exp (Host.negf
          (extractStridedSlice S16x2048x2816 ![0, 0, 0] u slices_S16x2048x5632_S16x2048x2816_0_0_0))))))
    (extractStridedSlice S16x2048x2816 ![0, 0, 2816] u slices_S16x2048x5632_S16x2048x2816_0_0_2816)

theorem act_apply (u : FVec Ideal S16x2048x5632 .f32) (b : Fin 16) (t : Fin 2048) (k : Fin 2816) :
    act u (ix3 b t k) = u (ix3 b t ⟨k, by omega⟩) * Ideal.logistic (u (ix3 b t ⟨k, by omega⟩))
      * u (ix3 b t ⟨2816 + k, by omega⟩) := by
  pointwise [act]
  rfl

/-- The half-weighted residual of the second product, flattened. -/
def out (x : FVec Ideal S16x2048x1024 .f32) (a : FVec Ideal S16x2048x2816 .f32) (d : FVec Ideal S2816x1024 .f32) :
    FVec Ideal S16x2048x1024 .f32 :=
  addf x (mulf (broadcastInDim S16x2048x1024 ![] bcast_S_S16x2048x1024 (constant S_ .f32 0x3F000000#32))
    (Host.dotGeneral dot_S16x2048x2816_S2816x1024_S16x2048x1024_2_0_01_1_n_n none a d))

theorem out_apply (x : FVec Ideal S16x2048x1024 .f32) (a : FVec Ideal S16x2048x2816 .f32) (d : FVec Ideal S2816x1024 .f32)
    (b : Fin 16) (t : Fin 2048) (l : Fin 1024) :
    out x a d (ix3 b t l) = x (ix3 b t l) + lit 0x3F000000#32 * ∑ k, a (ix3 b t k) * d (ix2 k l) := by
  pointwise [out]

/-- The reference's result as one term of its four arguments. -/
def R (x : FVec Ideal S16x2048x1024 .f32) (g : FVec Ideal S1024 .f32) (w : FVec Ideal S1024x5632 .f32)
    (d : FVec Ideal S2816x1024 .f32) : FVec Ideal S32768x1024 .f32 :=
  shapeCast S32768x1024 (out x (act (up (norm x g) w)) d) shapeCasts_S16x2048x1024_S32768x1024

theorem R_apply (x : FVec Ideal S16x2048x1024 .f32) (g : FVec Ideal S1024 .f32) (w : FVec Ideal S1024x5632 .f32)
    (d : FVec Ideal S2816x1024 .f32) (n : Fin 32768) (l : Fin 1024) :
    R x g w d (ix2 n l) = ffn (fun k => x (ix3 (bat n) (pos n) k)) (fun k => g (ix1 k)) (fun c k => w (ix2 c k))
      (fun k l => d (ix2 k l)) l := by
  refine (flat_apply (w := 1024) _ _ n l).trans ?_
  rw [out_apply]
  simp only [act_apply, up_apply, norm_apply]
  rfl

variable (m : (ℓ : Loc nD τ sig) → Buf (Elt Ideal) ℓ) (ρ : Dev nD → PrngReg)

/-- The reference's run with its result at `R` of the arguments. -/
theorem run : θ_run defs (onTc (τ := τ) (main (F := Ideal))) ⟨m, fun _ => 0, ρ⟩ fun r => ∀ c : Dev nD,
      r.2.mem ((c.tc : Thread nD τ).loc main_v22) = R (m ((c.tc : Thread nD τ).loc main_arg0))
        (m ((c.tc : Thread nD τ).loc main_arg1)) (m ((c.tc : Thread nD τ).loc main_arg2))
        (m ((c.tc : Thread nD τ).loc main_arg3)) :=
  (θ_run defs _ _).mono (fun _ h c => (h c).1) (Value.run m ρ)

end Cert.FfnRefProof

end
-- ==== Proof.MergeRef.lean ====
/- The merge reference's result, read at an index: the gating over chunks of 128 rows, the gated projections, the
   feed-forward and the last norm. -/
module

public import proofs.«01_k».proof.Proof.Gen.ReferenceIdeal.Run
public import proofs.«01_k».proof.Proof.FfnRef

@[expose] public section

set_option maxRecDepth 16384

noncomputable section

namespace Cert.MergeRefProof

open Cert.ReferenceIdeal Cert.ReferenceIdeal.Gen Cert.RowMath Idealize.ShloMosaic Idealize.ShloMosaic.TcCoe
  Idealize.SL.Sem

/-- The mixing matrices with zeros above the diagonal. -/
def masked (w : FVec Ideal S8x128x128 .f32) : FVec Ideal S8x128x128 .f32 :=
  select (broadcastInDim S8x128x128 ![1, 2] bcast_S128x128_S8x128x128_1_2
      (select (cmpi .sge (addi (iotaInDim S128x128 32 0) (broadcastInDim S128x128 ![] bcast_S_S128x128 (constantI S_ 32 0#32)))
          (iotaInDim S128x128 32 1))
        (broadcastInDim S128x128 ![] bcast_S_S128x128 (constantI S_ 1 1#1))
        (broadcastInDim S128x128 ![] bcast_S_S128x128 (constantI S_ 1 0#1)))) w
    (broadcastInDim S8x128x128 ![] bcast_S_S8x128x128 (sitofp (F := Ideal) .f32 (constantI S_ 32 0#32)))

/-- A chunk's rows mixed per group of columns, plus the bias. -/
def mix (v : FVec Ideal S16x16x128x8x128 .f32) (w : FVec Ideal S8x128x128 .f32) (b : FVec Ideal S8x128 .f32) :
    FVec Ideal S16x16x128x8x128 .f32 :=
  addf (transpose S16x16x128x8x128 [1, 2, 4, 0, 3]
      (Host.dotGeneral dot_S16x16x128x8x128_S8x128x128_S8x16x16x128x128_2_2_014_1_3_0 none v w)
      transposes_S8x16x16x128x128_S16x16x128x8x128_1_2_4_0_3)
    (broadcastInDim S16x16x128x8x128 ![0, 1, 2, 3, 4] bcast_S1x1x128x8x1_S16x16x128x8x128_0_1_2_3_4
      (broadcastInDim S1x1x128x8x1 ![2, 3, 4] bcast_S128x8x1_S1x1x128x8x1_2_3_4
        (broadcastInDim S128x8x1 ![0, 1] bcast_S128x8_S128x8x1_0_1 (transpose S128x8 [1, 0] b transposes_S8x128_S128x8_1_0))))

theorem mix_apply (v : FVec Ideal S16x16x128x8x128 .f32) (w : FVec Ideal S8x128x128 .f32) (b : FVec Ideal S8x128 .f32)
    (n c : Fin 16) (t : Fin 128) (g : Fin 8) (d : Fin 128) :
    mix v w b (ix5 n c t g d) = ∑ k : Fin 128, v (ix5 n c k g d) * w (ix3 g t k) + b (ix2 g t) := by
  pointwise [mix]

/-- The gating. -/
def gate (u v : FVec Ideal S16x2048x1024 .bf16) (w : FVec Ideal S8x128x128 .f32) (b : FVec Ideal S8x128 .f32) :
    FVec Ideal S16x2048x1024 .f32 :=
  mulf (extf .f32 u bitsLt_bf16_f32) (shapeCast S16x2048x1024
    (mix (shapeCast S16x16x128x8x128 (extf .f32 v bitsLt_bf16_f32) shapeCasts_S16x2048x1024_S16x16x128x8x128) w b)
    shapeCasts_S16x16x128x8x128_S16x2048x1024)

theorem gate_apply (u v : FVec Ideal S16x2048x1024 .bf16) (w : FVec Ideal S8x128x128 .f32) (b : FVec Ideal S8x128 .f32)
    (n : Fin 16) (t : Fin 2048) (l : Fin 1024) :
    gate u v w b (ix3 n t l) = u (ix3 n t l) * (∑ k : Fin 128, w (ix3 ⟨l / 128, by omega⟩ ⟨t % 128, by omega⟩ k)
      * v (ix3 n ⟨t.val / 128 * 128 + k, by omega⟩ l) + b (ix2 ⟨l / 128, by omega⟩ ⟨t % 128, by omega⟩)) := by
  refine congrArg (fun s : EReal => u (ix3 n t l) * s) ?_
  refine (shapeCast_apply _ shapeCasts_S16x16x128x8x128_S16x2048x1024 _ (ix5 n (⟨t / 128, by omega⟩ : Fin 16)
    (⟨t % 128, by omega⟩ : Fin 128) (⟨l / 128, by omega⟩ : Fin 8) (⟨l % 128, by omega⟩ : Fin 128)) ?_).trans ?_
  · rw [Shape.rowMajor_val_five, Shape.rowMajor_val_three]
    show (((n.val * 16 + t.val / 128) * 128 + t.val % 128) * 8 + l.val / 128) * 128 + l.val % 128
      = (n.val * 2048 + t.val) * 1024 + l.val
    omega
  rw [mix_apply]
  refine congrArg (fun s : EReal => s + b _) (Finset.sum_congr rfl fun k _ => (mul_comm _ _).trans ?_)
  refine congrArg (fun s : EReal => w _ * s) ?_
  refine (shapeCast_apply _ shapeCasts_S16x2048x1024_S16x16x128x8x128 _ (ix3 n (⟨t / 128 * 128 + k, by omega⟩ : Fin 2048) l) ?_).trans rfl
  rw [Shape.rowMajor_val_five, Shape.rowMajor_val_three]
  show (n.val * 2048 + (t.val / 128 * 128 + k.val)) * 1024 + l.val
    = (((n.val * 16 + t.val / 128) * 128 + k.val) * 8 + l.val / 128) * 128 + l.val % 128
  omega

/-- The logistic function as the reference spells it. -/
def logi (x : FVec Ideal S16x2048x1024 .f32) : FVec Ideal S16x2048x1024 .f32 :=
  Host.divf (broadcastInDim S16x2048x1024 ![] bcast_S_S16x2048x1024 (constant S_ .f32 0x3F800000#32))
    (addf (broadcastInDim S16x2048x1024 ![] bcast_S_S16x2048x1024 (constant S_ .f32 0x3F800000#32)) (Host.exp (Host.negf x)))

theorem logi_apply (x : FVec Ideal S16x2048x1024 .f32) (b : Fin 16) (t : Fin 2048) (l : Fin 1024) :
    logi x (ix3 b t l) = Ideal.logistic (x (ix3 b t l)) := by
  pointwise [logi]
  rfl

/-- Rows times a square matrix. -/
def times (x : FVec Ideal S16x2048x1024 .f32) (w : FVec Ideal S1024x1024 .f32) : FVec Ideal S16x2048x1024 .f32 :=
  Host.dotGeneral dot_S16x2048x1024_S1024x1024_S16x2048x1024_2_0_01_1_n_n none x w

theorem times_apply (x : FVec Ideal S16x2048x1024 .f32) (w : FVec Ideal S1024x1024 .f32) (b : Fin 16) (t : Fin 2048)
    (l : Fin 1024) : times x w (ix3 b t l) = dot (fun k => x (ix3 b t k)) (fun k l => w (ix2 k l)) l := by
  pointwise [times]
  rfl

/-- The residual after the gated mixers. -/
def mid (x ga gb ya yb : FVec Ideal S16x2048x1024 .f32) (wa wb wo : FVec Ideal S1024x1024 .f32) :
    FVec Ideal S16x2048x1024 .f32 :=
  addf x (times (addf (mulf (logi ga) (times ya wa)) (mulf (logi gb) (times yb wb))) wo)

theorem mid_apply (x ga gb ya yb : FVec Ideal S16x2048x1024 .f32) (wa wb wo : FVec Ideal S1024x1024 .f32) (b : Fin 16)
    (t : Fin 2048) (l : Fin 1024) : mid x ga gb ya yb wa wb wo (ix3 b t l)
      = mixed (fun k => x (ix3 b t k)) (fun k => ga (ix3 b t k)) (fun k => gb (ix3 b t k)) (fun k => ya (ix3 b t k))
        (fun k => yb (ix3 b t k)) (fun k l => wa (ix2 k l)) (fun k l => wb (ix2 k l)) (fun k l => wo (ix2 k l)) l := by
  show x (ix3 b t l) + times _ wo (ix3 b t l) = _
  rw [times_apply]
  refine congrArg (fun f : Fin 1024 → EReal => x (ix3 b t l) + dot f (fun k l => wo (ix2 k l)) l) (funext fun k => ?_)
  show logi ga (ix3 b t k) * times ya wa (ix3 b t k) + logi gb (ix3 b t k) * times yb wb (ix3 b t k) = _
  rw [logi_apply, logi_apply, times_apply, times_apply]

/-- The feed-forward's residual and the last norm. -/
def last (x : FVec Ideal S16x2048x1024 .f32) (g : FVec Ideal S1024 .f32) (w : FVec Ideal S1024x5632 .f32)
    (d : FVec Ideal S2816x1024 .f32) (fg : FVec Ideal S1024 .f32) : FVec Ideal S16x2048x1024 .f32 :=
  FfnRefProof.norm (FfnRefProof.out x (FfnRefProof.act (FfnRefProof.up (FfnRefProof.norm x g) w)) d) fg

theorem last_apply (x : FVec Ideal S16x2048x1024 .f32) (g : FVec Ideal S1024 .f32) (w : FVec Ideal S1024x5632 .f32)
    (d : FVec Ideal S2816x1024 .f32) (fg : FVec Ideal S1024 .f32) (b : Fin 16) (t : Fin 2048) (l : Fin 1024) :
    last x g w d fg (ix3 b t l) = rms (ffn (fun k => x (ix3 b t k)) (fun k => g (ix1 k)) (fun c k => w (ix2 c k))
      (fun k l => d (ix2 k l))) (fun k => fg (ix1 k)) l := by
  unfold last
  rw [FfnRefProof.norm_apply]
  refine congrArg (fun f => rms f (fun k => fg (ix1 k)) l) (funext fun l => ?_)
  rw [FfnRefProof.out_apply]
  simp only [FfnRefProof.act_apply, FfnRefProof.up_apply, FfnRefProof.norm_apply]
  rfl

/-- The reference's result as one term of its arguments. -/
def R (x ga gb : FVec Ideal S16x2048x1024 .f32) (u v yb : FVec Ideal S16x2048x1024 .bf16) (ws : FVec Ideal S8x128x128 .f32)
    (b : FVec Ideal S8x128 .f32) (wa wb wo : FVec Ideal S1024x1024 .f32) (g : FVec Ideal S1024 .f32)
    (w : FVec Ideal S1024x5632 .f32) (d : FVec Ideal S2816x1024 .f32) (fg : FVec Ideal S1024 .f32) :
    FVec Ideal S32768x1024 .f32 :=
  shapeCast S32768x1024 (last (mid x ga gb (gate u v (masked ws) b) (extf .f32 yb bitsLt_bf16_f32) wa wb wo) g w d fg)
    shapeCasts_S16x2048x1024_S32768x1024

theorem R_apply (x ga gb : FVec Ideal S16x2048x1024 .f32) (u v yb : FVec Ideal S16x2048x1024 .bf16)
    (ws : FVec Ideal S8x128x128 .f32) (b : FVec Ideal S8x128 .f32) (wa wb wo : FVec Ideal S1024x1024 .f32)
    (g : FVec Ideal S1024 .f32) (w : FVec Ideal S1024x5632 .f32) (d : FVec Ideal S2816x1024 .f32) (fg : FVec Ideal S1024 .f32)
    (n : Fin 32768) (l : Fin 1024) :
    R x ga gb u v yb ws b wa wb wo g w d fg (ix2 n l)
      = rms (ffn (mixed (fun k => x (ix3 (bat n) (pos n) k)) (fun k => ga (ix3 (bat n) (pos n) k))
        (fun k => gb (ix3 (bat n) (pos n) k)) (fun k => gate u v (masked ws) b (ix3 (bat n) (pos n) k))
        (fun k => yb (ix3 (bat n) (pos n) k)) (fun k l => wa (ix2 k l)) (fun k l => wb (ix2 k l)) (fun k l => wo (ix2 k l)))
        (fun k => g (ix1 k)) (fun c k => w (ix2 c k)) (fun k l => d (ix2 k l))) (fun k => fg (ix1 k)) l := by
  refine (flat_apply (w := 1024) _ _ n l).trans ?_
  rw [last_apply]
  simp only [mid_apply]
  rfl

variable (m : (ℓ : Loc nD τ sig) → Buf (Elt Ideal) ℓ)

/-- The generated result is `R` of the arguments. -/
theorem res_eq (c : Dev nD) : Value.res_main_v70 m c = R (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    (m ((c.tc : Thread nD τ).loc main_arg14)) := rfl

end Cert.MergeRefProof

end
-- ==== Proof.MergeClaim.lean ====
/- The merge call: its kernel's result and its reference's are the same array. -/
module

public import proofs.«01_k».proof.Defs
public import proofs.«01_k».proof.Proof.MergeArray
public import proofs.«01_k».proof.Proof.MergeRef

@[expose] public section

set_option maxRecDepth 16384

noncomputable section

namespace Cert.MergeEq

open Cert.RowMath Idealize.ShloMosaic Idealize.ShloMosaic.TcCoe Idealize.SL.Sem

/-- The two gatings are the same function. -/
theorem gating_eq (u v : FVec Ideal ReferenceIdeal.S16x2048x1024 .bf16) (w : FVec Ideal ReferenceIdeal.S8x128x128 .f32)
    (b : FVec Ideal ReferenceIdeal.S8x128 .f32) (n : Fin 32768) :
    MergeProof.gating u v w b n = fun l => MergeRefProof.gate u v w b (ix3 (bat n) (pos n) l) := by
  funext l
  rw [MergeRefProof.gate_apply]
  unfold MergeProof.gating
  have e : ∀ h, (⟨n.val % 128, h⟩ : Fin 128) = ⟨(pos n).val % 128, by omega⟩ := fun _ => Fin.ext (by
    show n.val % 128 = n.val % 2048 % 128; omega)
  simp only [e]

/-- The two results, as functions of the arguments, are equal. -/
theorem res_eq (x ga gb : FVec Ideal ReferenceIdeal.S16x2048x1024 .f32) (u v yb : FVec Ideal ReferenceIdeal.S16x2048x1024 .bf16)
    (ws : FVec Ideal ReferenceIdeal.S8x128x128 .f32) (b : FVec Ideal ReferenceIdeal.S8x128 .f32)
    (wa wb wo : FVec Ideal ReferenceIdeal.S1024x1024 .f32) (g : FVec Ideal ReferenceIdeal.S1024 .f32)
    (w : FVec Ideal ReferenceIdeal.S1024x5632 .f32) (d : FVec Ideal ReferenceIdeal.S2816x1024 .f32)
    (fg : FVec Ideal ReferenceIdeal.S1024 .f32) :
    MergeRefProof.R x ga gb u v yb ws b wa wb wo g w d fg
      = MergeProof.arr (MergeProof.merged x ga gb u v yb (MergeProof.masked ws) b wa wb wo g w d fg) := by
  funext i
  obtain ⟨n, l, rfl⟩ : ∃ (n : Fin 32768) (l : Fin 1024), i = ix2 n l := ⟨i 0, i 1, Shape.idx_ext₂ rfl rfl⟩
  rw [MergeRefProof.R_apply, ← gating_eq]
  rfl

theorem algebraic : algebraic_KernelIdeal_ReferenceIdeal := fun m g m' g' _ hag =>
  ⟨fun c => MergeProof.arr (MergeProof.res m c),
    (θ_run _ _ _).mono (fun _ h c => ⟨(h c).1.trans (MergeProof.final15 m c), (h c).2⟩) (KernelIdeal.Value.run_blocks m g),
    (θ_run _ _ _).mono (fun _ h c => ⟨(h c).1.trans (by
      obtain ⟨h0, h1, h2, h3, h4, h5, h6, h7, h8, h9, h10, h11, h12, h13, h14⟩ := hag c
      rw [MergeRefProof.res_eq, h0, h1, h2, h3, h4, h5, h6, h7, h8, h9, h10, h11, h12, h13, h14]
      exact res_eq _ _ _ _ _ _ _ _ _ _ _ _ _ _ _), (h c).2⟩) (ReferenceIdeal.Value.run m' g')⟩

end Cert.MergeEq

end
-- ==== Proof.FfnBlock.lean ====
/- What one grid point of the feed-forward kernel computes: 1024 rows, each through `RowMath.ffn` — the kernel adds the
   2816 hidden columns in eleven chunks of 256. -/
module

public import proofs.«01_k».proof.Proof.Gen.FfnIdeal.Value
public import proofs.«01_k».proof.Proof.RowMath

@[expose] public section

set_option maxRecDepth 16384

noncomputable section

namespace Cert.FfnProof

open Cert.FfnIdeal Cert.FfnIdeal.Gen Cert.RowMath Idealize.ShloMosaic

/-- The normalised row block that every chunk reads, at an index. -/
theorem norm_apply (x : Vec Ideal S1024x1024 .f32) (g : Vec Ideal S1x1024 .f32) (w : Vec Ideal S1024x5632 .bf16)
    (d : Vec Ideal S2816x1024 .bf16) (r l : Fin 1024) :
    k0_pay12 x g w d (ix2 r l) = rms (fun k => x (ix2 r k)) (fun k => g (ix2 0 k)) l := by
  pointwise [k0_pay12, k0_pay3, k0_pay2]
  rfl

/-- The block that a point writes, at an index. -/
theorem out_apply (x : Vec Ideal S1024x1024 .f32) (g : Vec Ideal S1x1024 .f32) (w : Vec Ideal S1024x5632 .bf16)
    (d : Vec Ideal S2816x1024 .bf16) (r l : Fin 1024) :
    out0_4 x g w d (ix2 r l) = ffn (fun k => x (ix2 r k)) (fun k => g (ix2 0 k)) (fun c k => w (ix2 c k))
      (fun k l => d (ix2 k l)) l := by
  have hn : rms (fun k => x (ix2 r k)) (fun k => g (ix2 0 k)) = fun k => k0_pay12 x g w d (ix2 r k) :=
    funext fun k => (norm_apply x g w d r k).symm
  have hh : k0_pay3 (View.ld x r0_0) (View.ld g r0_1) = k0_pay12 x g w d := rfl
  unfold ffn
  rw [hn, sum_eleven]
  simp only [gated, dot, ← Nat.add_assoc, Nat.reduceAdd]
  unfold out0_4
  rw [View.canon_unit_zero (by decide)]
  unfold k0_pay4 k0_pay5
  generalize k0_pay12 x g w d = h at *
  simp only [hh]
  pointwise [k0_pay1, k0_pay2, k0_pay6, k0_pay7, k0_pay8, k0_pay9, k0_pay10, k0_pay11]

end Cert.FfnProof

end
-- ==== Proof.FfnArray.lean ====
/- The feed-forward kernel's result array: point `t` writes the rows from `1024 * t` on, each the feed-forward of the
   argument's row; the 32 points cover the array. -/
module

public import proofs.«01_k».proof.Proof.FfnBlock

@[expose] public section

set_option maxRecDepth 16384

noncomputable section

namespace Cert.FfnProof

open Cert.FfnIdeal Cert.FfnIdeal.Gen Cert.FfnIdeal.Value Cert.RowMath Idealize.ShloMosaic Idealize.ShloMosaic.TcCoe
  Idealize.SL.Sem

/-- The result array as one function of the four argument arrays. -/
def G (x : Vec Ideal S16x2048x1024 .f32) (g : Vec Ideal S1024 .f32) (w : Vec Ideal S1024x5632 .f32)
    (d : Vec Ideal S2816x1024 .f32) : Vec Ideal S32768x1024 .f32 := fun i =>
  ffn (fun k => x (ix3 (bat (i 0)) (pos (i 0)) k)) (fun k => g (ix1 k)) (fun c k => w (ix2 c k))
    (fun k l => d (ix2 k l)) (i 1)

variable (m : (ℓ : Loc nD τ sig) → Buf (Elt Ideal) ℓ)

/-- The rows, as the region finds them: the argument's, flattened. -/
theorem V_x (c : Dev nD) (n : Fin 32768) (l : Fin 1024) :
    V m c main_v0 (ix2 n l) = m ((c : Thread nD τ).loc main_arg0) (ix3 (bat n) (pos n) l) := by
  have e : V m c main_v0 = shapeCast S32768x1024 (m ((c : Thread nD τ).loc main_arg0)) shapeCasts_S16x2048x1024_S32768x1024 := by
    simp only [V, hostOps0]
    after_results_simp <;> rfl
  rw [e]
  exact flat_apply (w := 1024) _ _ n l

theorem V_g (c : Dev nD) (k : Fin 1024) :
    V m c main_v3 (ix2 0 k) = m ((c : Thread nD τ).loc main_arg1) (ix1 k) := by
  have e : V m c main_v3 = shapeCast S1x1024 (m ((c : Thread nD τ).loc main_arg1)) shapeCasts_S1024_S1x1024 := by
    simp only [V, hostOps0]
    after_results_simp <;> rfl
  rw [e]
  pointwise

theorem V_w (c : Dev nD) : V m c main_v1 = m ((c : Thread nD τ).loc main_arg2) := by
  simp only [V, hostOps0]
  after_results_simp <;> rfl

theorem V_d (c : Dev nD) : V m c main_v2 = m ((c : Thread nD τ).loc main_arg3) := by
  simp only [V, hostOps0]
  after_results_simp <;> rfl

/-- Each window's block index at point `t`: the rows move with the point, the weights stay. -/
theorem index_t : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Flat row `1024 * t + r`. -/
def row (t : Fin cfg0.N) (r : Fin 1024) : Fin 32768 := ⟨t.val * 1024 + r, by have : t.val < 32 := t.isLt; omega⟩

theorem emb_x (t : Fin cfg0.N) (r l : Fin 1024) : ((cfg0.win 0).blk t).view.emb (ix2 r l) = ix2 (row t r) l := by
  have e := index_t t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * l.val = l.val; omega

theorem emb_g (t : Fin cfg0.N) (r : Fin 1) (l : Fin 1024) : ((cfg0.win 1).blk t).view.emb (ix2 r l) = ix2 r l := by
  have e := index_t t
  funext a; apply Fin.ext
  match a with
  | ⟨0, _⟩ => show win0_1.index t (0 : Fin 2) * 1 + 1 * r.val = r.val; omega
  | ⟨1, _⟩ => show win0_1.index t (1 : Fin 2) * 1024 + 1 * l.val = l.val; omega

theorem emb_w (t : Fin cfg0.N) (r : Fin 1024) (l : Fin 5632) : ((cfg0.win 2).blk t).view.emb (ix2 r l) = ix2 r l := by
  have e := index_t t
  funext a; apply Fin.ext
  match a with
  | ⟨0, _⟩ => show win0_2.index t (0 : Fin 2) * 1024 + 1 * r.val = r.val; omega
  | ⟨1, _⟩ => show win0_2.index t (1 : Fin 2) * 5632 + 1 * l.val = l.val; omega

theorem emb_d (t : Fin cfg0.N) (r : Fin 2816) (l : Fin 1024) : ((cfg0.win 3).blk t).view.emb (ix2 r l) = ix2 r l := by
  have e := index_t t
  funext a; apply Fin.ext
  match a with
  | ⟨0, _⟩ => show win0_3.index t (0 : Fin 2) * 2816 + 1 * r.val = r.val; omega
  | ⟨1, _⟩ => show win0_3.index t (1 : Fin 2) * 1024 + 1 * l.val = l.val; omega

theorem emb_o (t : Fin cfg0.N) (r l : Fin 1024) : ((cfg0.win 4).blk t).view.emb (ix2 r l) = ix2 (row t r) l := by
  have e := index_t t
  funext a; apply Fin.ext
  match a with
  | ⟨0, _⟩ => show win0_4.index t (0 : Fin 2) * 1024 + 1 * r.val = t.val * 1024 + r.val; omega
  | ⟨1, _⟩ => show win0_4.index t (1 : Fin 2) * 1024 + 1 * l.val = l.val; omega

/-- `G` of the arguments as launched. -/
abbrev Gm (c : Dev nD) : Vec Ideal S32768x1024 .f32 :=
  G (m ((c : Thread nD τ).loc main_arg0)) (m ((c : Thread nD τ).loc main_arg1)) (m ((c : Thread nD τ).loc main_arg2))
    (m ((c : Thread nD τ).loc main_arg3))

/-- What point `t` writes back is its rows of `G`. -/
theorem flushed_eq (c : Dev nD) (t : Fin cfg0.N) :
    (dats m 0 c).flushed 4 t = ((cfg0.win 4).blk t).view.read (Elt Ideal) (Gm m c) := by
  rw [flushed4]
  funext j
  obtain ⟨r, l, rfl⟩ : ∃ r l, j = ix2 r l := ⟨j 0, j 1, Shape.idx_ext₂ rfl rfl⟩
  show out0_4 (iblk m c 0 t) (iblk m c 1 t) (iblk m c 2 t) (iblk m c 3 t) (ix2 r l)
    = Gm m c (((cfg0.win 4).blk t).view.emb (ix2 r l))
  have hx : ∀ k, iblk m c 0 t (ix2 r k) = m ((c : Thread nD τ).loc main_arg0) (ix3 (bat (row t r)) (pos (row t r)) k) := fun k => by
    show V m c main_v0 (((cfg0.win 0).blk t).view.emb (ix2 r k)) = _
    rw [emb_x, V_x]
  have hg : ∀ k, iblk m c 1 t (ix2 0 k) = m ((c : Thread nD τ).loc main_arg1) (ix1 k) := fun k => by
    show V m c main_v3 (((cfg0.win 1).blk t).view.emb (ix2 0 k)) = _
    rw [emb_g, V_g]
  have hw : ∀ a k, iblk m c 2 t (ix2 a k) = m ((c : Thread nD τ).loc main_arg2) (ix2 a k) := fun a k => by
    show V m c main_v1 (((cfg0.win 2).blk t).view.emb (ix2 a k)) = _
    rw [emb_w, V_w]
  have hd : ∀ a k, iblk m c 3 t (ix2 a k) = m ((c : Thread nD τ).loc main_arg3) (ix2 a k) := fun a k => by
    show V m c main_v2 (((cfg0.win 3).blk t).view.emb (ix2 a k)) = _
    rw [emb_d, V_d]
  rw [out_apply, emb_o]
  simp only [hx, hg, hw, hd]
  rfl

/-- Every index of the result array is in the block of the point of its row. -/
theorem covered (i : S32768x1024.Idx) :
    ∃ t : Fin cfg0.N, (cfg0.win 4).flush t = true ∧ i ∈ ((cfg0.win 4).blk t).view.set := by
  obtain ⟨n, l, rfl⟩ : ∃ (n : Fin 32768) (l : Fin 1024), i = ix2 n l := ⟨i 0, i 1, Shape.idx_ext₂ rfl rfl⟩
  obtain ⟨t, r, rfl⟩ : ∃ (t : Fin cfg0.N) (r : Fin 1024), n = row t r :=
    ⟨⟨n.val / 1024, by show _ < 32; omega⟩, ⟨n.val % 1024, by omega⟩, Fin.ext (by
      show n.val = n.val / 1024 * 1024 + n.val % 1024; omega)⟩
  exact ⟨t, flush0_4 _, emb_o t r l ▸ ((cfg0.win 4).blk t).view.emb_mem_set (ix2 r l)⟩

/-- The result array after the run. -/
theorem final (c : Dev nD) : (dats m 0 c).arrAt 4 cfg0.N = Gm m c :=
  (dats m 0 c).arrAt_eq_of_cover 4 (Gm m c) (fun t _ => flushed_eq m c t) covered

end Cert.FfnProof

end
-- ==== Proof.FfnClaim.lean ====
/- The feed-forward call: its kernel's result and its reference's are the same array, and both leave their arguments. -/
module

public import proofs.«01_k».proof.Defs
public import proofs.«01_k».proof.Proof.Gen.Ffn.Frame
public import proofs.«01_k».proof.Proof.FfnArray
public import proofs.«01_k».proof.Proof.FfnRef

@[expose] public section

noncomputable section

namespace Cert.FfnEq

open Cert.RowMath Idealize.ShloMosaic Idealize.ShloMosaic.TcCoe Idealize.SL.Sem

/-- The two results, as functions of the arguments, are equal. -/
theorem G_eq_R (x : FVec Ideal FfnIdeal.S16x2048x1024 .f32) (g : FVec Ideal FfnIdeal.S1024 .f32)
    (w : FVec Ideal FfnIdeal.S1024x5632 .f32) (d : FVec Ideal FfnIdeal.S2816x1024 .f32) :
    FfnProof.G x g w d = FfnRefProof.R x g w d := by
  funext i
  obtain ⟨n, l, rfl⟩ : ∃ (n : Fin 32768) (l : Fin 1024), i = ix2 n l := ⟨i 0, i 1, Shape.idx_ext₂ rfl rfl⟩
  exact (FfnRefProof.R_apply x g w d n l).symm

theorem frame : quiescent_Ffn := fun m g _ => Ffn.Gen.frame m g

theorem frameIdeal : quiescent_FfnIdeal := fun m g _ => FfnIdeal.Gen.frame m g

theorem frameRef : quiescent_FfnReferenceIdeal := fun m g _ =>
  (θ_run _ _ _).mono (fun r h => ⟨fun c => (h c).2, sem_eq_zero_of_no_sems (by decide) r.2⟩)
    (FfnReferenceIdeal.Value.run m g)

theorem algebraic : algebraic_FfnIdeal_FfnReferenceIdeal := fun m g m' g' _ hag =>
  ⟨fun c => FfnProof.Gm m c,
    (θ_run _ _ _).mono (fun _ h c => ⟨(h c).1.trans (FfnProof.final m c), (h c).2⟩) (FfnIdeal.Value.run_blocks m g),
    (θ_run _ _ _).mono (fun _ h c => ⟨(h c).1.trans (by
      obtain ⟨h0, h1, h2, h3⟩ := hag c
      show FfnRefProof.R _ _ _ _ = _
      rw [h0, h1, h2, h3]
      exact (G_eq_R _ _ _ _).symm), (h c).2⟩) (FfnReferenceIdeal.Value.run m' g')⟩

end Cert.FfnEq

end
-- ==== Proof.InprojBlock.lean ====
/- What one grid point of the input-projection kernel computes: 512 rows, each normalised once and multiplied by column
   ranges of the projection; `gelu` of one range, the layer norm of `gelu` of another, the rest as they are. -/
module

public import proofs.«01_k».proof.Proof.Gen.InprojIdeal.Value
public import proofs.«01_k».proof.Proof.RowMath
public import Idealize.ShloMosaic.Lib.Pipeline.ValueKit.Tiles

@[expose] public section

set_option maxRecDepth 16384

noncomputable section

namespace Cert.InprojProof

open Cert.InprojIdeal Cert.InprojIdeal.Gen Cert.RowMath Idealize.ShloMosaic

variable (x : Vec Ideal S512x1024 .f32) (g : Vec Ideal S1x1024 .f32) (w : Vec Ideal S1024x7168 .bf16)
  (wl : Vec Ideal S1024x256 .bf16) (a b : Vec Ideal S1x1024 .f32)

/-- Row `r` of the block, normalised. -/
def hrow (r : Fin 512) : Fin 1024 → EReal := rms (fun k => x (ix2 r k)) (fun k => g (ix2 0 k))

/-- Row `r` times column `k` of the main weights. -/
def col (r : Fin 512) (k : Fin 7168) : EReal := dot (hrow x g r) (fun c k => w (ix2 c k)) k

theorem norm_apply (r : Fin 512) (l : Fin 1024) : k0_pay13 x g w wl a b (ix2 r l) = hrow x g r l := by
  pointwise [k0_pay13, k0_pay6]
  rfl

theorem norm_eq : k0_pay6 (View.ld x r0_0) (View.ld g r0_1) = k0_pay13 x g w wl a b := rfl

theorem out6_apply (r : Fin 512) (l : Fin 1024) : out0_6 x g w wl a b (ix2 r l) = col x g w r ⟨l, by omega⟩ := by
  have hn : hrow x g r = fun k => k0_pay13 x g w wl a b (ix2 r k) := funext fun k => (norm_apply x g w wl a b r k).symm
  unfold out0_6 k0_pay7 col dot
  rw [View.canon_unit_zero (by decide), norm_eq x g w wl a b, hn]
  generalize k0_pay13 x g w wl a b = h
  pointwise

theorem out7_apply (r : Fin 512) (l : Fin 1024) : out0_7 x g w wl a b (ix2 r l) = col x g w r ⟨1024 + l, by omega⟩ := by
  have hn : hrow x g r = fun k => k0_pay13 x g w wl a b (ix2 r k) := funext fun k => (norm_apply x g w wl a b r k).symm
  unfold out0_7 k0_pay8 col dot
  rw [View.canon_unit_zero (by decide), norm_eq x g w wl a b, hn]
  generalize k0_pay13 x g w wl a b = h
  pointwise

theorem out8_apply (r : Fin 512) (l : Fin 1024) :
    out0_8 x g w wl a b (ix2 r l) = gelu (col x g w r ⟨2048 + l, by omega⟩) := by
  have hn : hrow x g r = fun k => k0_pay13 x g w wl a b (ix2 r k) := funext fun k => (norm_apply x g w wl a b r k).symm
  have hc : k0_pay9 (View.ld x r0_0) (View.ld g r0_1) (View.ld w r0_4) (ix2 r l) = col x g w r ⟨2048 + l, by omega⟩ := by
    unfold k0_pay9 col dot
    rw [norm_eq x g w wl a b, hn]
    generalize k0_pay13 x g w wl a b = h
    pointwise
  unfold out0_8 k0_pay10
  rw [View.canon_unit_zero (by decide), ← hc]
  generalize k0_pay9 (View.ld x r0_0) (View.ld g r0_1) (View.ld w r0_4) = u
  unfold gelu
  pointwise [k0_pay11]

theorem out9_apply (r : Fin 512) (l : Fin 1024) :
    out0_9 x g w wl a b (ix2 r l) = lnorm (fun j => gelu (col x g w r ⟨3072 + j, by omega⟩)) (fun k => a (ix2 0 k))
      (fun k => b (ix2 0 k)) l := by
  have hn : hrow x g r = fun k => k0_pay13 x g w wl a b (ix2 r k) := funext fun k => (norm_apply x g w wl a b r k).symm
  unfold out0_9 k0_pay12
  rw [View.canon_unit_zero (by decide)]
  unfold lnorm mean gelu col dot
  rw [hn]
  generalize k0_pay13 x g w wl a b = h
  pointwise [k0_pay1]

theorem out10_apply (r : Fin 512) (l : Fin 3072) :
    out0_10 x g w wl a b (ix2 r l) = col x g w r ⟨4096 + l, by omega⟩ := by
  have hn : hrow x g r = fun k => k0_pay13 x g w wl a b (ix2 r k) := funext fun k => (norm_apply x g w wl a b r k).symm
  unfold out0_10 col
  rw [hn]
  generalize k0_pay13 x g w wl a b = h
  refine View.canon_eq_of_allAt _ _ _ (cover0_10 _ _ _ _) ?_
  have key : ∀ (o : Nat) (ho : ∀ e, (![0, o] : Fin 2 → Nat) e + S512x1024.size e ≤ S512x3072.size e)
      (p : FVec Ideal S512x1024 .f32)
      (hp : ∀ r (j : Fin 1024) (hj : 4096 + (o + j.val) < 7168),
        p (ix2 r j) = dot (fun k => h (ix2 r k)) (fun c k => w (ix2 c k)) ⟨4096 + (o + j), hj⟩),
      View.RectAt (Val := Elt Ideal) (e := .f32) (ix2 r l) (Rect.unit (s := S512x3072) ![0, o] S512x1024.size ho) p
        (dot (fun k => h (ix2 r k)) (fun c k => w (ix2 c k)) ⟨4096 + l, by omega⟩) := by
    intro o ho p hp j hj
    obtain ⟨s, t, rfl⟩ : ∃ (s : Fin 512) (t : Fin 1024), j = ix2 s t := ⟨j 0, j 1, Shape.idx_ext₂ rfl rfl⟩
    have e0 : s = r := Fin.ext (by
      have := congrArg (fun i : S512x3072.Idx => (i 0).val) hj
      have e : 0 + 1 * s.val = r.val := this
      omega)
    have e1 : o + t.val = l.val := by
      have := congrArg (fun i : S512x3072.Idx => (i 1).val) hj
      have e : o + 1 * t.val = l.val := this
      omega
    subst e0
    rw [hp s t (by omega)]
    congr 2
    omega
  refine View.allAt_cons _ _ _ (key 2048 _ _ fun r j hj => ?_)
    (View.allAt_cons _ _ _ (key 1024 _ _ fun r j hj => ?_) (View.allAt_cons _ _ _ (key 0 _ _ fun r j hj => ?_) (View.allAt_nil _ _)))
  all_goals
    simp only [dot, ← Nat.add_assoc, Nat.reduceAdd]
    pointwise [k0_pay2, k0_pay3, k0_pay4]

theorem out11_apply (r : Fin 512) (l : Fin 256) :
    out0_11 x g w wl a b (ix2 r l) = dot (hrow x g r) (fun c k => wl (ix2 c k)) l := by
  have hn : hrow x g r = fun k => k0_pay13 x g w wl a b (ix2 r k) := funext fun k => (norm_apply x g w wl a b r k).symm
  unfold out0_11 k0_pay5 dot
  rw [View.canon_unit_zero (by decide), hn]
  generalize k0_pay13 x g w wl a b = h
  pointwise

end Cert.InprojProof

end
-- ==== Proof.InprojEntry.lean ====
/- The input-projection kernel's operand arrays as the region finds them: the rows flattened, the projection's first 7168
   columns, its last 128 columns padded with zeros to 256. -/
module

public import proofs.«01_k».proof.Proof.Gen.InprojIdeal.Value
public import proofs.«01_k».proof.Proof.RowMath

@[expose] public section

set_option maxRecDepth 16384

noncomputable section

namespace Cert.InprojProof

open Cert.InprojIdeal Cert.InprojIdeal.Gen Cert.RowMath Idealize.ShloMosaic Idealize.ShloMosaic.TcCoe

variable (m : (ℓ : Loc nD τ sig) → Buf (Elt Ideal) ℓ)

/-- The rows: the argument's, flattened. -/
theorem V_x (c : Dev nD) (n : Fin 32768) (l : Fin 1024) :
    V m c main_v5 (ix2 n l) = m ((c : Thread nD τ).loc main_arg0) (ix3 (bat n) (pos n) l) := by
  have e : V m c main_v5 = shapeCast S32768x1024 (m ((c : Thread nD τ).loc main_arg0)) shapeCasts_S16x2048x1024_S32768x1024 := by
    simp only [V, hostOps0, hostOps0_1, hostOps0_2, List.flatten_cons, List.flatten_nil, List.append_nil, List.cons_append, List.nil_append]
    after_results_simp <;> rfl
  rw [e]
  exact flat_apply (w := 1024) _ _ n l

theorem V_g (c : Dev nD) (k : Fin 1024) :
    V m c main_v6 (ix2 0 k) = m ((c : Thread nD τ).loc main_arg1) (ix1 k) := by
  have e : V m c main_v6 = shapeCast S1x1024 (m ((c : Thread nD τ).loc main_arg1)) shapeCasts_S1024_S1x1024 := by
    simp only [V, hostOps0, hostOps0_1, hostOps0_2, List.flatten_cons, List.flatten_nil, List.append_nil, List.cons_append, List.nil_append]
    after_results_simp <;> rfl
  rw [e]
  pointwise

theorem V_a (c : Dev nD) (k : Fin 1024) :
    V m c main_v7 (ix2 0 k) = m ((c : Thread nD τ).loc main_arg3) (ix1 k) := by
  have e : V m c main_v7 = shapeCast S1x1024 (m ((c : Thread nD τ).loc main_arg3)) shapeCasts_S1024_S1x1024 := by
    simp only [V, hostOps0, hostOps0_1, hostOps0_2, List.flatten_cons, List.flatten_nil, List.append_nil, List.cons_append, List.nil_append]
    after_results_simp <;> rfl
  rw [e]
  pointwise

theorem V_b (c : Dev nD) (k : Fin 1024) :
    V m c main_v8 (ix2 0 k) = m ((c : Thread nD τ).loc main_arg4) (ix1 k) := by
  have e : V m c main_v8 = shapeCast S1x1024 (m ((c : Thread nD τ).loc main_arg4)) shapeCasts_S1024_S1x1024 := by
    simp only [V, hostOps0, hostOps0_1, hostOps0_2, List.flatten_cons, List.flatten_nil, List.append_nil, List.cons_append, List.nil_append]
    after_results_simp <;> rfl
  rw [e]
  pointwise

/-- The main weights: the projection's first 7168 columns. -/
theorem V_w (c : Dev nD) (a : Fin 1024) (k : Fin 7168) :
    V m c main_v1 (ix2 a k) = m ((c : Thread nD τ).loc main_arg2) (ix2 a ⟨k, by omega⟩) := by
  have e : V m c main_v1 = truncf (F := Ideal) (s := S1024x7168) (φ := .f32) .bf16 (extractStridedSlice (s := S1024x7296) S1024x7168 ![0, 0] (m ((c : Thread nD τ).loc main_arg2))
      slices_S1024x7296_S1024x7168_0_0) bitsLt_bf16_f32 := by
    simp only [V, hostOps0, hostOps0_1, hostOps0_2, List.flatten_cons, List.flatten_nil, List.append_nil, List.cons_append, List.nil_append]
    after_results_simp <;> rfl
  rw [e]
  pointwise

/-- The low-rank weights: the projection's last 128 columns, then 128 columns of zeros. -/
theorem V_l (c : Dev nD) (a : Fin 1024) (k : Fin 256) :
    V m c main_v4 (ix2 a k)
      = if h : k.val < 128 then m ((c : Thread nD τ).loc main_arg2) (ix2 a ⟨7168 + k, by omega⟩) else (0 : EReal) := by
  have e : V m c main_v4 = truncf .bf16 (pad S1024x256 ![0, 0] ![0, 128] ![0, 0]
      (extractStridedSlice S1024x128 ![0, 7168] (m ((c : Thread nD τ).loc main_arg2))
      slices_S1024x7296_S1024x128_0_7168) (sitofp (F := Ideal) .f32 (constantI S_ 32 0#32)) pads_S1024x128_S1024x256_000_01280 h_S_)
      bitsLt_bf16_f32 := by
    simp only [V, hostOps0, hostOps0_1, hostOps0_2, List.flatten_cons, List.flatten_nil, List.append_nil, List.cons_append, List.nil_append]
    after_results_simp <;> rfl
  rw [e]
  pointwise
  rw [sitofp_zero]

end Cert.InprojProof

end
-- ==== Proof.InprojArray.lean ====
/- The input-projection kernel's six result arrays: point `t` writes the rows from `512 * t` on of each, the 64 points
   cover them. -/
module

public import proofs.«01_k».proof.Proof.InprojBlock
public import proofs.«01_k».proof.Proof.InprojEntry

@[expose] public section

set_option maxRecDepth 16384

noncomputable section

namespace Cert.InprojProof

open Cert.InprojIdeal Cert.InprojIdeal.Gen Cert.InprojIdeal.Value Cert.RowMath Idealize.ShloMosaic
  Idealize.ShloMosaic.TcCoe Idealize.SL.Sem

/-! ## The results as functions of the arguments -/

section
variable (x : Vec Ideal S16x2048x1024 .f32) (g : Vec Ideal S1024 .f32) (w : Vec Ideal S1024x7296 .f32)
  (a b : Vec Ideal S1024 .f32)

/-- Flat row `n`, normalised, times column `k` of the projection. -/
def pcol (n : Fin 32768) (k : Fin 7296) : EReal :=
  dot (rms (fun k => x (ix3 (bat n) (pos n) k)) (fun k => g (ix1 k))) (fun c k => w (ix2 c k)) k

def ga (n : Fin 32768) (l : Fin 1024) : EReal := pcol x g w n ⟨l, by omega⟩
def gb (n : Fin 32768) (l : Fin 1024) : EReal := pcol x g w n ⟨1024 + l, by omega⟩
def gu (n : Fin 32768) (l : Fin 1024) : EReal := gelu (pcol x g w n ⟨2048 + l, by omega⟩)
def vn (n : Fin 32768) (l : Fin 1024) : EReal :=
  lnorm (fun j => gelu (pcol x g w n ⟨3072 + j, by omega⟩)) (fun k => a (ix1 k)) (fun k => b (ix1 k)) l
def rkv (n : Fin 32768) (l : Fin 3072) : EReal := pcol x g w n ⟨4096 + l, by omega⟩
def low (n : Fin 32768) (l : Fin 256) : EReal := if h : l.val < 128 then pcol x g w n ⟨7168 + l, by omega⟩ else 0

end

/-- A function of row and column as an array. -/
def arr {p q : Nat} (f : Fin p → Fin q → EReal) : (⟨2, ![p, q]⟩ : Shape).Idx → EReal := fun i => f (i 0) (i 1)

/-! ## Where each window's block lies -/

variable (m : (ℓ : Loc nD τ sig) → Buf (Elt Ideal) ℓ)

/-- The rows' windows move with the point; every other block index is zero. -/
theorem index_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

theorem index_out : ∀ t : Fin cfg0.N, (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- Flat row `512 * t + r`. -/
def row (t : Fin cfg0.N) (r : Fin 512) : Fin 32768 := ⟨t.val * 512 + r, by have : t.val < 64 := t.isLt; omega⟩

/-- Every flat row is some point's. -/
theorem row_surj (n : Fin 32768) : ∃ (t : Fin cfg0.N) (r : Fin 512), n = row t r :=
  ⟨⟨n.val / 512, by show _ < 64; omega⟩, ⟨n.val % 512, by omega⟩, Fin.ext (by
    show n.val = n.val / 512 * 512 + n.val % 512; omega)⟩

/-- An index of a two-axis array from its two coordinates, the first moved by whole blocks of `d` rows. -/
theorem idx_of {p q : Nat} (i : (⟨2, ![p, q]⟩ : Shape).Idx) (n : Fin p) (l : Fin q) {k d r u v : Nat} (ku : k = u)
    (h0 : (i 0).val = k * d + 1 * r) (hn : n.val = u * d + r) {e : Nat} (he : e = 0) (h1 : (i 1).val = e * v + 1 * l.val) :
    i = ix2 n l := by
  subst ku he
  exact Shape.idx_ext₂ (by show (i 0).val = n.val; omega) (by show (i 1).val = l.val; omega)

theorem emb0 (t : Fin cfg0.N) (r : Fin 512) (l : Fin 1024) : ((cfg0.win 0).blk t).view.emb (ix2 r l) = ix2 (row t r) l :=
  idx_of _ _ l (index_in t).1.1 rfl rfl (index_in t).1.2 rfl

theorem emb1 (t : Fin cfg0.N) (l : Fin 1024) : ((cfg0.win 1).blk t).view.emb (ix2 (0 : Fin 1) l) = ix2 (0 : Fin 1) l :=
  idx_of _ _ l (d := 1) (index_in t).2.1.1 rfl rfl (index_in t).2.1.2 rfl

theorem emb2 (t : Fin cfg0.N) (r : Fin 1024) (l : Fin 7168) : ((cfg0.win 2).blk t).view.emb (ix2 r l) = ix2 r l :=
  idx_of _ _ l (d := 1024) (r := r) (index_in t).2.2.1.1 rfl (by omega) (index_in t).2.2.1.2 rfl

theorem emb3 (t : Fin cfg0.N) (r : Fin 1024) (l : Fin 256) : ((cfg0.win 3).blk t).view.emb (ix2 r l) = ix2 r l :=
  idx_of _ _ l (d := 1024) (r := r) (index_in t).2.2.2.1.1 rfl (by omega) (index_in t).2.2.2.1.2 rfl

theorem emb4 (t : Fin cfg0.N) (l : Fin 1024) : ((cfg0.win 4).blk t).view.emb (ix2 (0 : Fin 1) l) = ix2 (0 : Fin 1) l :=
  idx_of _ _ l (d := 1) (index_in t).2.2.2.2.1.1 rfl rfl (index_in t).2.2.2.2.1.2 rfl

theorem emb5 (t : Fin cfg0.N) (l : Fin 1024) : ((cfg0.win 5).blk t).view.emb (ix2 (0 : Fin 1) l) = ix2 (0 : Fin 1) l :=
  idx_of _ _ l (d := 1) (index_in t).2.2.2.2.2.1 rfl rfl (index_in t).2.2.2.2.2.2 rfl

theorem emb6 (t : Fin cfg0.N) (r : Fin 512) (l : Fin 1024) : ((cfg0.win 6).blk t).view.emb (ix2 r l) = ix2 (row t r) l :=
  idx_of _ _ l (index_out t).1.1 rfl rfl (index_out t).1.2 rfl

theorem emb7 (t : Fin cfg0.N) (r : Fin 512) (l : Fin 1024) : ((cfg0.win 7).blk t).view.emb (ix2 r l) = ix2 (row t r) l :=
  idx_of _ _ l (index_out t).2.1.1 rfl rfl (index_out t).2.1.2 rfl

theorem emb8 (t : Fin cfg0.N) (r : Fin 512) (l : Fin 1024) : ((cfg0.win 8).blk t).view.emb (ix2 r l) = ix2 (row t r) l :=
  idx_of _ _ l (index_out t).2.2.1.1 rfl rfl (index_out t).2.2.1.2 rfl

theorem emb9 (t : Fin cfg0.N) (r : Fin 512) (l : Fin 1024) : ((cfg0.win 9).blk t).view.emb (ix2 r l) = ix2 (row t r) l :=
  idx_of _ _ l (index_out t).2.2.2.1.1 rfl rfl (index_out t).2.2.2.1.2 rfl

theorem emb10 (t : Fin cfg0.N) (r : Fin 512) (l : Fin 3072) : ((cfg0.win 10).blk t).view.emb (ix2 r l) = ix2 (row t r) l :=
  idx_of _ _ l (index_out t).2.2.2.2.1.1 rfl rfl (index_out t).2.2.2.2.1.2 rfl

theorem emb11 (t : Fin cfg0.N) (r : Fin 512) (l : Fin 256) : ((cfg0.win 11).blk t).view.emb (ix2 r l) = ix2 (row t r) l :=
  idx_of _ _ l (index_out t).2.2.2.2.2.1 rfl rfl (index_out t).2.2.2.2.2.2 rfl

/-! ## The input blocks, and what each output block holds -/

section
variable (c : Dev nD) (t : Fin cfg0.N)

abbrev aX : Vec Ideal S16x2048x1024 .f32 := m ((c : Thread nD τ).loc main_arg0)
abbrev aG : Vec Ideal S1024 .f32 := m ((c : Thread nD τ).loc main_arg1)
abbrev aW : Vec Ideal S1024x7296 .f32 := m ((c : Thread nD τ).loc main_arg2)
abbrev aA : Vec Ideal S1024 .f32 := m ((c : Thread nD τ).loc main_arg3)
abbrev aB : Vec Ideal S1024 .f32 := m ((c : Thread nD τ).loc main_arg4)

theorem blk_x (r : Fin 512) (k : Fin 1024) :
    iblk m c 0 t (ix2 r k) = aX m c (ix3 (bat (row t r)) (pos (row t r)) k) := by
  show V m c main_v5 (((cfg0.win 0).blk t).view.emb (ix2 r k)) = _
  rw [emb0, V_x]

theorem blk_g (k : Fin 1024) : iblk m c 1 t (ix2 (0 : Fin 1) k) = aG m c (ix1 k) := by
  show V m c main_v6 (((cfg0.win 1).blk t).view.emb (ix2 (0 : Fin 1) k)) = _
  rw [emb1, V_g]

theorem blk_w (r : Fin 1024) (k : Fin 7168) : iblk m c 2 t (ix2 r k) = aW m c (ix2 r ⟨k, by omega⟩) := by
  show V m c main_v1 (((cfg0.win 2).blk t).view.emb (ix2 r k)) = _
  rw [emb2, V_w]

theorem blk_l (r : Fin 1024) (k : Fin 256) :
    iblk m c 3 t (ix2 r k) = if h : k.val < 128 then aW m c (ix2 r ⟨7168 + k, by omega⟩) else (0 : EReal) := by
  show V m c main_v4 (((cfg0.win 3).blk t).view.emb (ix2 r k)) = _
  rw [emb3, V_l]

theorem blk_a (k : Fin 1024) : iblk m c 4 t (ix2 (0 : Fin 1) k) = aA m c (ix1 k) := by
  show V m c main_v7 (((cfg0.win 4).blk t).view.emb (ix2 (0 : Fin 1) k)) = _
  rw [emb4, V_a]

theorem blk_b (k : Fin 1024) : iblk m c 5 t (ix2 (0 : Fin 1) k) = aB m c (ix1 k) := by
  show V m c main_v8 (((cfg0.win 5).blk t).view.emb (ix2 (0 : Fin 1) k)) = _
  rw [emb5, V_b]

/-- A normalised row of the block is the flat row's. -/
theorem hrow_eq (r : Fin 512) : hrow (iblk m c 0 t) (iblk m c 1 t) r
    = rms (fun k => aX m c (ix3 (bat (row t r)) (pos (row t r)) k)) (fun k => aG m c (ix1 k)) := by
  unfold hrow
  simp only [blk_x, blk_g]

/-- A column of the block's product is the flat row's. -/
theorem col_eq (r : Fin 512) (k : Fin 7168) : col (iblk m c 0 t) (iblk m c 1 t) (iblk m c 2 t) r k
    = pcol (aX m c) (aG m c) (aW m c) (row t r) ⟨k, by omega⟩ := by
  unfold col pcol
  rw [hrow_eq]
  unfold dot
  simp only [blk_w]

theorem flush6 : (dats m 0 c).flushed 6 t
    = ((cfg0.win 6).blk t).view.read (Elt Ideal) (arr (ga (aX m c) (aG m c) (aW m c))) := by
  rw [flushed6]
  funext j
  obtain ⟨r, l, rfl⟩ := split j
  show out0_6 (iblk m c 0 t) (iblk m c 1 t) (iblk m c 2 t) (iblk m c 3 t) (iblk m c 4 t) (iblk m c 5 t) (ix2 r l)
    = arr (ga (aX m c) (aG m c) (aW m c)) (((cfg0.win 6).blk t).view.emb (ix2 r l))
  rw [out6_apply, col_eq, emb6]
  rfl

theorem flush7 : (dats m 0 c).flushed 7 t
    = ((cfg0.win 7).blk t).view.read (Elt Ideal) (arr (gb (aX m c) (aG m c) (aW m c))) := by
  rw [flushed7]
  funext j
  obtain ⟨r, l, rfl⟩ := split j
  show out0_7 (iblk m c 0 t) (iblk m c 1 t) (iblk m c 2 t) (iblk m c 3 t) (iblk m c 4 t) (iblk m c 5 t) (ix2 r l)
    = arr (gb (aX m c) (aG m c) (aW m c)) (((cfg0.win 7).blk t).view.emb (ix2 r l))
  rw [out7_apply, col_eq, emb7]
  rfl

theorem flush8 : (dats m 0 c).flushed 8 t
    = ((cfg0.win 8).blk t).view.read (Elt Ideal) (arr (gu (aX m c) (aG m c) (aW m c))) := by
  rw [flushed8]
  funext j
  obtain ⟨r, l, rfl⟩ := split j
  show out0_8 (iblk m c 0 t) (iblk m c 1 t) (iblk m c 2 t) (iblk m c 3 t) (iblk m c 4 t) (iblk m c 5 t) (ix2 r l)
    = arr (gu (aX m c) (aG m c) (aW m c)) (((cfg0.win 8).blk t).view.emb (ix2 r l))
  rw [out8_apply, col_eq, emb8]
  rfl

theorem flush9 : (dats m 0 c).flushed 9 t
    = ((cfg0.win 9).blk t).view.read (Elt Ideal) (arr (vn (aX m c) (aG m c) (aW m c) (aA m c) (aB m c))) := by
  rw [flushed9]
  funext j
  obtain ⟨r, l, rfl⟩ := split j
  show out0_9 (iblk m c 0 t) (iblk m c 1 t) (iblk m c 2 t) (iblk m c 3 t) (iblk m c 4 t) (iblk m c 5 t) (ix2 r l)
    = arr (vn (aX m c) (aG m c) (aW m c) (aA m c) (aB m c)) (((cfg0.win 9).blk t).view.emb (ix2 r l))
  rw [out9_apply, emb9]
  simp only [col_eq, blk_a, blk_b]
  rfl

theorem flush10 : (dats m 0 c).flushed 10 t
    = ((cfg0.win 10).blk t).view.read (Elt Ideal) (arr (rkv (aX m c) (aG m c) (aW m c))) := by
  rw [flushed10]
  funext j
  obtain ⟨r, l, rfl⟩ := split j
  show out0_10 (iblk m c 0 t) (iblk m c 1 t) (iblk m c 2 t) (iblk m c 3 t) (iblk m c 4 t) (iblk m c 5 t) (ix2 r l)
    = arr (rkv (aX m c) (aG m c) (aW m c)) (((cfg0.win 10).blk t).view.emb (ix2 r l))
  rw [out10_apply, col_eq, emb10]
  rfl

/-- A column of zeros gives zero, whatever the row. -/
theorem flush11 : (dats m 0 c).flushed 11 t
    = ((cfg0.win 11).blk t).view.read (Elt Ideal) (arr (low (aX m c) (aG m c) (aW m c))) := by
  rw [flushed11]
  funext j
  obtain ⟨r, l, rfl⟩ := split j
  show out0_11 (iblk m c 0 t) (iblk m c 1 t) (iblk m c 2 t) (iblk m c 3 t) (iblk m c 4 t) (iblk m c 5 t) (ix2 r l)
    = arr (low (aX m c) (aG m c) (aW m c)) (((cfg0.win 11).blk t).view.emb (ix2 r l))
  rw [out11_apply, hrow_eq, emb11]
  show _ = low _ _ _ (row t r) l
  unfold low pcol dot
  simp only [blk_l]
  by_cases h : l.val < 128
  · simp only [h, dite_true]
  · simp only [h, dite_false, mul_zero, Finset.sum_const_zero]

end

/-! ## The result arrays after the run -/

section
variable (c : Dev nD)

theorem final6 : (dats m 0 c).arrAt 6 cfg0.N = arr (ga (aX m c) (aG m c) (aW m c)) :=
  (dats m 0 c).arrAt_eq_of_cover 6 _ (fun t _ => flush6 m c t) fun i => by
    obtain ⟨n, l, rfl⟩ := split i
    obtain ⟨t, r, rfl⟩ := row_surj n
    exact ⟨t, flush0_6 _, emb6 t r l ▸ ((cfg0.win 6).blk t).view.emb_mem_set (ix2 r l)⟩

theorem final7 : (dats m 0 c).arrAt 7 cfg0.N = arr (gb (aX m c) (aG m c) (aW m c)) :=
  (dats m 0 c).arrAt_eq_of_cover 7 _ (fun t _ => flush7 m c t) fun i => by
    obtain ⟨n, l, rfl⟩ := split i
    obtain ⟨t, r, rfl⟩ := row_surj n
    exact ⟨t, flush0_7 _, emb7 t r l ▸ ((cfg0.win 7).blk t).view.emb_mem_set (ix2 r l)⟩

theorem final8 : (dats m 0 c).arrAt 8 cfg0.N = arr (gu (aX m c) (aG m c) (aW m c)) :=
  (dats m 0 c).arrAt_eq_of_cover 8 _ (fun t _ => flush8 m c t) fun i => by
    obtain ⟨n, l, rfl⟩ := split i
    obtain ⟨t, r, rfl⟩ := row_surj n
    exact ⟨t, flush0_8 _, emb8 t r l ▸ ((cfg0.win 8).blk t).view.emb_mem_set (ix2 r l)⟩

theorem final9 : (dats m 0 c).arrAt 9 cfg0.N = arr (vn (aX m c) (aG m c) (aW m c) (aA m c) (aB m c)) :=
  (dats m 0 c).arrAt_eq_of_cover 9 _ (fun t _ => flush9 m c t) fun i => by
    obtain ⟨n, l, rfl⟩ := split i
    obtain ⟨t, r, rfl⟩ := row_surj n
    exact ⟨t, flush0_9 _, emb9 t r l ▸ ((cfg0.win 9).blk t).view.emb_mem_set (ix2 r l)⟩

theorem final10 : (dats m 0 c).arrAt 10 cfg0.N = arr (rkv (aX m c) (aG m c) (aW m c)) :=
  (dats m 0 c).arrAt_eq_of_cover 10 _ (fun t _ => flush10 m c t) fun i => by
    obtain ⟨n, l, rfl⟩ := split i
    obtain ⟨t, r, rfl⟩ := row_surj n
    exact ⟨t, flush0_10 _, emb10 t r l ▸ ((cfg0.win 10).blk t).view.emb_mem_set (ix2 r l)⟩

theorem final11 : (dats m 0 c).arrAt 11 cfg0.N = arr (low (aX m c) (aG m c) (aW m c)) :=
  (dats m 0 c).arrAt_eq_of_cover 11 _ (fun t _ => flush11 m c t) fun i => by
    obtain ⟨n, l, rfl⟩ := split i
    obtain ⟨t, r, rfl⟩ := row_surj n
    exact ⟨t, flush0_11 _, emb11 t r l ▸ ((cfg0.win 11).blk t).view.emb_mem_set (ix2 r l)⟩

end

end Cert.InprojProof

end
-- ==== Proof.InprojRef.lean ====
/- The input projection's reference, its six results read at an index: the normalised row times a column of the
   projection, through `gelu` and the layer norm where the layer has them. -/
module

public import proofs.«01_k».proof.Proof.Gen.InprojReferenceIdeal.Run
public import proofs.«01_k».proof.Proof.FfnRef

@[expose] public section

set_option maxRecDepth 16384

noncomputable section

namespace Cert.InprojRefProof

open Cert.InprojReferenceIdeal Cert.InprojReferenceIdeal.Gen Cert.RowMath Idealize.ShloMosaic
  Idealize.ShloMosaic.TcCoe Idealize.SL.Sem

/-- The whole projection. -/
def proj (x : FVec Ideal S16x2048x1024 .f32) (g : FVec Ideal S1024 .f32) (w : FVec Ideal S1024x7296 .f32) :
    FVec Ideal S16x2048x7296 .f32 :=
  Host.dotGeneral dot_S16x2048x1024_S1024x7296_S16x2048x7296_2_0_01_1_n_n none (FfnRefProof.norm x g) w

theorem proj_apply (x : FVec Ideal S16x2048x1024 .f32) (g : FVec Ideal S1024 .f32) (w : FVec Ideal S1024x7296 .f32)
    (b : Fin 16) (t : Fin 2048) (k : Fin 7296) : proj x g w (ix3 b t k)
      = dot (rms (fun k => x (ix3 b t k)) fun k => g (ix1 k)) (fun c k => w (ix2 c k)) k := by
  have h := FfnRefProof.norm_apply x g b t
  unfold proj dot
  generalize FfnRefProof.norm x g = n at *
  simp only [← h]
  pointwise

variable (p : FVec Ideal S16x2048x7296 .f32)

/-- The two gates. -/
def gateA : FVec Ideal S16x2048x1024 .f32 :=
  extractStridedSlice S16x2048x1024 ![0, 0, 0] p slices_S16x2048x7296_S16x2048x1024_0_0_0

theorem gateA_apply (b : Fin 16) (t : Fin 2048) (l : Fin 1024) :
    gateA p (ix3 b t l) = p (ix3 b t ⟨l, by omega⟩) := by
  pointwise [gateA]

def gateB : FVec Ideal S16x2048x1024 .f32 :=
  extractStridedSlice S16x2048x1024 ![0, 0, 1024] p slices_S16x2048x7296_S16x2048x1024_0_0_1024

theorem gateB_apply (b : Fin 16) (t : Fin 2048) (l : Fin 1024) :
    gateB p (ix3 b t l) = p (ix3 b t ⟨1024 + l, by omega⟩) := by
  pointwise [gateB]

/-- The two halves the gating unit takes. -/
def preU : FVec Ideal S16x2048x1024 .f32 :=
  extractStridedSlice S16x2048x1024 ![0, 0, 2048] p slices_S16x2048x7296_S16x2048x1024_0_0_2048

theorem preU_apply (b : Fin 16) (t : Fin 2048) (l : Fin 1024) :
    preU p (ix3 b t l) = p (ix3 b t ⟨2048 + l, by omega⟩) := by
  pointwise [preU]

def preV : FVec Ideal S16x2048x1024 .f32 :=
  extractStridedSlice S16x2048x1024 ![0, 0, 3072] p slices_S16x2048x7296_S16x2048x1024_0_0_3072

theorem preV_apply (b : Fin 16) (t : Fin 2048) (l : Fin 1024) :
    preV p (ix3 b t l) = p (ix3 b t ⟨3072 + l, by omega⟩) := by
  pointwise [preV]

/-- The columns of the recurrence. -/
def cols : FVec Ideal S16x2048x3200 .f32 :=
  extractStridedSlice S16x2048x3200 ![0, 0, 4096] p slices_S16x2048x7296_S16x2048x3200_0_0_4096

/-- Its receptance, key and value. -/
def recur : FVec Ideal S16x2048x3072 .f32 :=
  extractStridedSlice S16x2048x3072 ![0, 0, 0] (cols p) slices_S16x2048x3200_S16x2048x3072_0_0_0

theorem recur_apply (b : Fin 16) (t : Fin 2048) (l : Fin 3072) :
    recur p (ix3 b t l) = p (ix3 b t ⟨4096 + l, by omega⟩) := by
  pointwise [recur, cols]

/-- Its low-rank columns, padded with zeros. -/
def lora : FVec Ideal S16x2048x256 .f32 :=
  pad S16x2048x256 ![0, 0, 0] ![0, 0, 128] ![0, 0, 0]
    (extractStridedSlice S16x2048x128 ![0, 0, 3072] (cols p) slices_S16x2048x3200_S16x2048x128_0_0_3072)
    (sitofp .f32 (constantI S_ 32 0#32)) pads_S16x2048x128_S16x2048x256_000_000_01280 h_S_

theorem lora_apply (b : Fin 16) (t : Fin 2048) (l : Fin 256) :
    lora p (ix3 b t l) = if h : l.val < 128 then p (ix3 b t ⟨7168 + l, by omega⟩) else 0 := by
  pointwise [lora, cols, sitofp_zero]
  simp only [← Nat.add_assoc, Nat.reduceAdd]

variable (u : FVec Ideal S16x2048x1024 .f32)

/-- `gelu` of every entry. -/
def gel : FVec Ideal S16x2048x1024 .f32 :=
  mulf u (mulf (broadcastInDim S16x2048x1024 ![] bcast_S_S16x2048x1024 (constant S_ .f32 0x3F000000#32))
    (addf (broadcastInDim S16x2048x1024 ![] bcast_S_S16x2048x1024 (constant S_ .f32 0x3F800000#32))
      (Host.tanh (mulf (broadcastInDim S16x2048x1024 ![] bcast_S_S16x2048x1024 (constant S_ .f32 0x3F4C422A#32))
        (addf u (mulf (broadcastInDim S16x2048x1024 ![] bcast_S_S16x2048x1024 (constant S_ .f32 0x3D372713#32))
          (mulf (mulf u u) u)))))))

theorem gel_apply (b : Fin 16) (t : Fin 2048) (l : Fin 1024) : gel u (ix3 b t l) = gelu (u (ix3 b t l)) := by
  unfold gelu
  rw [mul_comm (u (ix3 b t l)) (u (ix3 b t l) * u (ix3 b t l))]
  pointwise [gel]

/-- The rows' means. -/
def mn : FVec Ideal S16x2048x1 .f32 :=
  Host.divf (broadcastInDim S16x2048x1 ![0, 1] bcast_S16x2048_S16x2048x1_0_1
    (Host.reduceAdd u (constant S_ .f32 0x00000000#32) reducesTo_S16x2048x1024_S16x2048_d2 h_S_))
    (broadcastInDim S16x2048x1 ![] bcast_S_S16x2048x1 (constant S_ .f32 0x44800000#32))

theorem mn_apply (b : Fin 16) (t : Fin 2048) : mn u (ix3 b t 0) = mean fun k => u (ix3 b t k) := by
  pointwise [mn]
  rfl

/-- The rows less their means. -/
def centred : FVec Ideal S16x2048x1024 .f32 :=
  subf u (broadcastInDim S16x2048x1024 ![0, 1, 2] bcast_S16x2048x1_S16x2048x1024_0_1_2 (mn u))

theorem centred_apply (b : Fin 16) (t : Fin 2048) (l : Fin 1024) :
    centred u (ix3 b t l) = u (ix3 b t l) - mean fun k => u (ix3 b t k) := by
  have h := mn_apply u b t
  unfold centred
  generalize mn u = n at *
  rw [← h]
  pointwise

/-- The layer norm. -/
def ln (a b : FVec Ideal S1024 .f32) : FVec Ideal S16x2048x1024 .f32 :=
  addf (mulf (mulf (centred u) (broadcastInDim S16x2048x1024 ![0, 1, 2] bcast_S16x2048x1_S16x2048x1024_0_1_2
    (Host.rsqrt (addf (mn (mulf (centred u) (centred u)))
      (broadcastInDim S16x2048x1 ![] bcast_S_S16x2048x1 (constant S_ .f32 0x3727C5AC#32))))))
    (broadcastInDim S16x2048x1024 ![0, 1, 2] bcast_S1x1x1024_S16x2048x1024_0_1_2
      (broadcastInDim S1x1x1024 ![2] bcast_S1024_S1x1x1024_2 a)))
    (broadcastInDim S16x2048x1024 ![0, 1, 2] bcast_S1x1x1024_S16x2048x1024_0_1_2
      (broadcastInDim S1x1x1024 ![2] bcast_S1024_S1x1x1024_2 b))

theorem ln_apply (a b : FVec Ideal S1024 .f32) (n : Fin 16) (t : Fin 2048) (l : Fin 1024) :
    ln u a b (ix3 n t l)
      = lnorm (fun k => u (ix3 n t k)) (fun k => a (ix1 k)) (fun k => b (ix1 k)) l := by
  have hc := centred_apply u n t
  unfold lnorm ln
  simp only [← hc]
  generalize centred u = v at *
  have hs := mn_apply (mulf v v) n t
  rw [show (fun k => mulf v v (ix3 n t k)) = fun k => v (ix3 n t k) * v (ix3 n t k) from rfl] at hs
  rw [← hs]
  generalize mn (mulf v v) = q at *
  pointwise

/-! ## The results, flattened -/

section
variable (x : FVec Ideal S16x2048x1024 .f32) (g : FVec Ideal S1024 .f32) (w : FVec Ideal S1024x7296 .f32)
  (a b : FVec Ideal S1024 .f32)

def R0 : FVec Ideal S32768x1024 .f32 := shapeCast _ (gateA (proj x g w)) shapeCasts_S16x2048x1024_S32768x1024
def R1 : FVec Ideal S32768x1024 .f32 := shapeCast _ (gateB (proj x g w)) shapeCasts_S16x2048x1024_S32768x1024
def R2 : FVec Ideal S32768x1024 .bf16 :=
  truncf .bf16 (shapeCast S32768x1024 (gel (preU (proj x g w))) shapeCasts_S16x2048x1024_S32768x1024) bitsLt_bf16_f32
def R3 : FVec Ideal S32768x1024 .bf16 :=
  truncf .bf16 (shapeCast S32768x1024 (ln (gel (preV (proj x g w))) a b) shapeCasts_S16x2048x1024_S32768x1024)
    bitsLt_bf16_f32
def R4 : FVec Ideal S32768x3072 .f32 := shapeCast _ (recur (proj x g w)) shapeCasts_S16x2048x3072_S32768x3072
def R5 : FVec Ideal S32768x256 .f32 := shapeCast _ (lora (proj x g w)) shapeCasts_S16x2048x256_S32768x256

variable (m : (ℓ : Loc nD τ sig) → Buf (Elt Ideal) ℓ) (c : Dev nD)

theorem v75_eq : Value.res_main_v75 m c = R2 (m ((c.tc : Thread nD τ).loc main_arg0))
    (m ((c.tc : Thread nD τ).loc main_arg1)) (m ((c.tc : Thread nD τ).loc main_arg2)) := rfl

theorem v77_eq : Value.res_main_v77 m c = R3 (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)) := rfl

end

end Cert.InprojRefProof

end
-- ==== Proof.InprojClaim.lean ====
/- The input-projection call: its kernel's six results and its reference's are the same arrays, and both leave their
   arguments. -/
module

public import proofs.«01_k».proof.Defs
public import proofs.«01_k».proof.Proof.Gen.Inproj.Frame
public import proofs.«01_k».proof.Proof.InprojArray
public import proofs.«01_k».proof.Proof.InprojRef

@[expose] public section

noncomputable section

namespace Cert.InprojEq

open Cert.RowMath Idealize.ShloMosaic Idealize.ShloMosaic.TcCoe Idealize.SL.Sem InprojProof InprojRefProof

section
variable (x : FVec Ideal InprojIdeal.S16x2048x1024 .f32) (g : FVec Ideal InprojIdeal.S1024 .f32)
  (w : FVec Ideal InprojIdeal.S1024x7296 .f32) (a b : FVec Ideal InprojIdeal.S1024 .f32)

/-- Each of the reference's results is the kernel's function of the arguments. -/
theorem eq0 : R0 x g w = arr (ga x g w) := by
  funext i
  obtain ⟨n, l, rfl⟩ := split i
  exact (flat_apply (w := 1024) _ _ n l).trans ((gateA_apply _ _ _ _).trans (proj_apply ..))

theorem eq1 : R1 x g w = arr (gb x g w) := by
  funext i
  obtain ⟨n, l, rfl⟩ := split i
  exact (flat_apply (w := 1024) _ _ n l).trans ((gateB_apply _ _ _ _).trans (proj_apply ..))

theorem eq2 : R2 x g w = arr (gu x g w) := by
  funext i
  obtain ⟨n, l, rfl⟩ := split i
  have e : R2 x g w (ix2 n l) = gel (preU (proj x g w)) (ix3 (bat n) (pos n) l) :=
    flat_apply (w := 1024) (gel (preU (proj x g w))) InprojReferenceIdeal.Gen.shapeCasts_S16x2048x1024_S32768x1024 n l
  rw [e, gel_apply, preU_apply, proj_apply]
  rfl

theorem eq3 : R3 x g w a b = arr (vn x g w a b) := by
  funext i
  obtain ⟨n, l, rfl⟩ := split i
  have e : R3 x g w a b (ix2 n l) = ln (gel (preV (proj x g w))) a b (ix3 (bat n) (pos n) l) :=
    flat_apply (w := 1024) (ln (gel (preV (proj x g w))) a b)
      InprojReferenceIdeal.Gen.shapeCasts_S16x2048x1024_S32768x1024 n l
  rw [e, ln_apply]
  simp only [gel_apply, preV_apply, proj_apply]
  rfl

theorem eq4 : R4 x g w = arr (rkv x g w) := by
  funext i
  obtain ⟨n, l, rfl⟩ := split i
  exact (flat_apply (w := 3072) _ _ n l).trans ((recur_apply _ _ _ _).trans (proj_apply ..))

theorem eq5 : R5 x g w = arr (low x g w) := by
  funext i
  obtain ⟨n, l, rfl⟩ := split i
  refine (flat_apply (w := 256) _ _ n l).trans ?_
  rw [lora_apply]
  simp only [proj_apply]
  rfl

end

theorem frame : quiescent_Inproj := fun m g _ => Inproj.Gen.frame m g

theorem frameIdeal : quiescent_InprojIdeal := fun m g _ => InprojIdeal.Gen.frame m g

theorem frameRef : quiescent_InprojReferenceIdeal := fun m g _ =>
  (θ_run _ _ _).mono (fun r h => ⟨fun c => (h c).2.2.2.2.2.2, sem_eq_zero_of_no_sems (by decide) r.2⟩)
    (InprojReferenceIdeal.Value.run m g)

theorem algebraic : algebraic_InprojIdeal_InprojReferenceIdeal := fun m g m' g' _ hag =>
  ⟨fun c => arr (ga (aX m c) (aG m c) (aW m c)), fun c => arr (gb (aX m c) (aG m c) (aW m c)),
    fun c => arr (gu (aX m c) (aG m c) (aW m c)), fun c => arr (vn (aX m c) (aG m c) (aW m c) (aA m c) (aB m c)),
    fun c => arr (rkv (aX m c) (aG m c) (aW m c)), fun c => arr (low (aX m c) (aG m c) (aW m c)),
    (θ_run _ _ _).mono (fun _ h c => by
      obtain ⟨h0, h1, h2, h3, h4, h5, hr⟩ := h c
      exact ⟨h0.trans (final6 m c), h1.trans (final7 m c), h2.trans (final8 m c), h3.trans (final9 m c),
        h4.trans (final10 m c), h5.trans (final11 m c), hr⟩) (InprojIdeal.Value.run_blocks m g),
    (θ_run _ _ _).mono (fun _ h c => by
      obtain ⟨h0, h1, h2, h3, h4, h5, hr⟩ := h c
      obtain ⟨e0, e1, e2, e3, e4⟩ := hag c
      refine ⟨h0.trans ?_, h1.trans ?_, h2.trans ?_, h3.trans ?_, h4.trans ?_, h5.trans ?_, hr⟩
      · show R0 _ _ _ = _
        rw [e0, e1, e2]
        exact eq0 _ _ _
      · show R1 _ _ _ = _
        rw [e0, e1, e2]
        exact eq1 _ _ _
      · show R2 _ _ _ = _
        rw [e0, e1, e2]
        exact eq2 _ _ _
      · show R3 _ _ _ _ _ = _
        rw [e0, e1, e2, e3, e4]
        exact eq3 _ _ _ _ _
      · show R4 _ _ _ = _
        rw [e0, e1, e2]
        exact eq4 _ _ _
      · show R5 _ _ _ = _
        rw [e0, e1, e2]
        exact eq5 _ _ _) (InprojReferenceIdeal.Value.run m' g')⟩

end Cert.InprojEq

end
-- ==== Proof.MidBlock.lean ====
/- What one grid point of the merge without a last norm computes: the merge kernel's rows before its last norm. -/
module

public import proofs.«01_k».proof.Proof.Gen.MidIdeal.Value
public import proofs.«01_k».proof.Proof.MergeBlock

@[expose] public section

set_option maxRecDepth 16384

noncomputable section

namespace Cert.MidProof

open Cert.MidIdeal Cert.MidIdeal.Gen Cert.RowMath Cert.MergeProof Idealize.ShloMosaic Idealize.ShloMosaic.TcCoe

/-- Reading a whole memref back gives the block it holds. -/
theorem whole_read {s : Shape} {e : EltTy} {arg : Memref sig .tc .vmem s e} (h : arg.IsWhole) (x : Vec Ideal s e)
    {off : Fin s.rank → Nat} (hz : off = fun _ => 0) {hb : ∀ a, off a + s.size a ≤ s.size a} :
    View.readAt (Elt Ideal) arg.view (Rect.unit (s := s) off s.size hb).toLoadRect (h.unread x) = x := by
  rw [View.readAt_eq_ld, h.read_unread, View.ld_unit_zero hz]

/-- The residual row after the gated mixers: this kernel's text is the merge kernel's. -/
theorem mixed_row (s : Vec Ideal S512x1024 .bf16) (x ga gb : Vec Ideal S512x1024 .f32) (yb : Vec Ideal S512x1024 .bf16)
    (wa wb wo : Vec Ideal S1024x1024 .bf16) (r : Fin 512) (l : Fin 1024) :
    k0_pay51 (k0_pay49 s wa ga) (k0_pay50 yb wb gb) x wo (ix2 r l) = mixed (fun k => x (ix2 r k)) (fun k => ga (ix2 r k))
      (fun k => gb (ix2 r k)) (fun k => s (ix2 r k)) (fun k => yb (ix2 r k)) (fun k l => wa (ix2 k l))
      (fun k l => wb (ix2 k l)) (fun k l => wo (ix2 k l)) l :=
  mixed_apply s x ga gb yb wa wb wo r l

/-- The normalised row that every chunk of the feed-forward reads: likewise. -/
theorem norm_row (a b x : Vec Ideal S512x1024 .f32) (wo : Vec Ideal S1024x1024 .bf16) (g : Vec Ideal S1x1024 .f32)
    (r : Fin 512) (l : Fin 1024) :
    k0_pay52 a b x wo g (ix2 r l) = rms (fun k => k0_pay51 a b x wo (ix2 r k)) (fun k => g (ix2 0 k)) l :=
  norm_apply a b x wo g r l

section
variable (c : Dev nD) (i : grid0.Coords)
  (arg1 : Memref sig .tc .vmem S512x1024 .f32) (h1 : arg1.IsWhole)
  (arg2 : Memref sig .tc .vmem S512x1024 .f32) (h2 : arg2.IsWhole)
  (arg3 : Memref sig .tc .vmem S512x1024 .f32) (h3 : arg3.IsWhole)
  (arg4 : Memref sig .tc .vmem S512x1024 .bf16) (h4 : arg4.IsWhole)
  (arg5 : Memref sig .tc .vmem S512x1024 .bf16) (h5 : arg5.IsWhole)
  (arg6 : Memref sig .tc .vmem S512x1024 .bf16) (h6 : arg6.IsWhole)
  (arg7 : Memref sig .tc .vmem S8x128x128 .bf16) (h7 : arg7.IsWhole)
  (arg8 : Memref sig .tc .vmem S128x1024 .f32) (h8 : arg8.IsWhole)
  (arg9 : Memref sig .tc .vmem S1024x1024 .bf16) (h9 : arg9.IsWhole)
  (arg10 : Memref sig .tc .vmem S1024x1024 .bf16) (h10 : arg10.IsWhole)
  (arg11 : Memref sig .tc .vmem S1024x1024 .bf16) (h11 : arg11.IsWhole)
  (arg12 : Memref sig .tc .vmem S1x1024 .f32) (h12 : arg12.IsWhole)
  (arg13 : Memref sig .tc .vmem S1024x5632 .bf16) (h13 : arg13.IsWhole)
  (arg14 : Memref sig .tc .vmem S2816x1024 .bf16) (h14 : arg14.IsWhole)
  (arg15 : Memref sig .tc .vmem S512x1024 .f32) (h15 : arg15.IsWhole)
  (arg16 : Memref sig .tc .vmem S512x1024 .bf16) (h16 : arg16.IsWhole)
  (x ga gb : Vec Ideal S512x1024 .f32) (u v yb : Vec Ideal S512x1024 .bf16) (ws : Vec Ideal S8x128x128 .bf16)
  (b : Vec Ideal S128x1024 .f32) (wa wb wo : Vec Ideal S1024x1024 .bf16) (g : Vec Ideal S1x1024 .f32)
  (w : Vec Ideal S1024x5632 .bf16) (d : Vec Ideal S2816x1024 .bf16)

/-- One gating tile, read through this kernel's memrefs. -/
theorem tile_read (r : Fin 512) (l : Fin 1024) (q o p : Nat) (hp : p = 128 * q) (ho : o % 128 = 0)
    (i7 : ∀ a, (![q, 0, 0] : Fin 3 → Nat) a + S1x128x128.size a ≤ S8x128x128.size a)
    (i5 : ∀ a, (![o, p] : Fin 2 → Nat) a + S128x128.size a ≤ S512x1024.size a)
    (i8 : ∀ a, (![0, p] : Fin 2 → Nat) a + S128x128.size a ≤ S128x1024.size a) :
    View.TileAt (Val := Elt Ideal) (e := .bf16) (ix2 r l : S512x1024.Idx) ![o, p] S128x128.size
      (k0_pay2 (F := Ideal) (View.readAt (Elt Ideal) arg7.view (Rect.unit (s := S8x128x128) ![q, 0, 0] S1x128x128.size i7).toLoadRect (h7.unread ws))
        (View.readAt (Elt Ideal) arg5.view (Rect.unit (s := S512x1024) ![o, p] S128x128.size i5).toLoadRect (h5.unread v))
        (View.readAt (Elt Ideal) arg8.view (Rect.unit (s := S128x1024) ![0, p] S128x128.size i8).toLoadRect (h8.unread b))
        (View.readAt (Elt Ideal) arg4.view (Rect.unit (s := S512x1024) ![o, p] S128x128.size i5).toLoadRect (h4.unread u)))
      (ya u v ws b r l) := by
  simp only [View.readAt_eq_ld, Memref.IsWhole.read_unread]
  exact tile_ld u v ws b r l q o p hp ho i7 i5 i8

/-- The scratch block read back holds the gating. -/
theorem scratch_row (r : Fin 512) (l : Fin 1024) :
    kernelRun0_A.sl.v512 c arg4 h4 arg5 h5 arg7 h7 arg8 h8 arg16 u v ws b (ix2 r l) = ya u v ws b r l := by
  unfold kernelRun0_A.sl.v512
  rw [View.readCov_eq_canon']
  show View.canon _ ((Rect.unit ![0, 0] S512x1024.size inb_S512x1024_S512x1024_0_0).idx (ix2 r l)) = _
  rw [show (Rect.unit ![0, 0] S512x1024.size inb_S512x1024_S512x1024_0_0).idx (ix2 r l) = (ix2 r l : S512x1024.Idx) from
    Shape.idx_ext₂ (by show 0 + 1 * r.val = r.val; omega) (by show 0 + 1 * l.val = l.val; omega)]
  refine View.canon_eq_of_allAt _ _ _ (View.cover_of_tiledL (s := S512x1024) _ (S128x128.size : Fin 2 → Nat) (by sl_kernel_rfl) _) ?_
  unfold kernelRun0_A.sl.HS0_32
  repeat refine View.allAt_cons_unit _ _ _ _ _ (tile_read arg4 h4 arg5 h5 arg7 h7 arg8 h8 u v ws b r l _ _ _ (by rfl) (by rfl) _ _ _) ?_
  exact View.allAt_nil _ _

set_option maxHeartbeats 1000000 in
/-- The block that a point writes, at an index. -/
theorem out_row (r : Fin 512) (l : Fin 1024) :
    out0_A_14 c i arg1 h1 arg2 h2 arg3 h3 arg4 h4 arg5 h5 arg6 h6 arg7 h7 arg8 h8 arg9 h9 arg10 h10 arg11 h11 arg12 h12 arg13 h13 arg14 h14 arg15 h15 arg16 h16 x ga gb u v yb ws b wa wb wo g w d (ix2 r l)
      = ffn (mixed (fun k => x (ix2 r k)) (fun k => ga (ix2 r k)) (fun k => gb (ix2 r k)) (ya u v ws b r)
          (fun k => yb (ix2 r k)) (fun k l => wa (ix2 k l)) (fun k l => wb (ix2 k l)) (fun k l => wo (ix2 k l)))
        (fun k => g (ix2 0 k)) (fun c k => w (ix2 c k)) (fun k l => d (ix2 k l)) l := by
  unfold out0_A_14
  rw [View.read_writes_junk_eq_canon]
  unfold kernelRun0_A
  dsimp only
  rw [View.canon_unit_zero (by decide)]
  unfold kernelRun0_A.sl.r_29 kernelRun0_A.sl.r_28
    kernelRun0_A.sl.r_27 kernelRun0_A.sl.r_26 kernelRun0_A.sl.r_25 kernelRun0_A.sl.r_24 kernelRun0_A.sl.r_23
    kernelRun0_A.sl.r_22 kernelRun0_A.sl.r_21 kernelRun0_A.sl.r_20 kernelRun0_A.sl.r_19 kernelRun0_A.sl.r_18
    kernelRun0_A.sl.r_17 kernelRun0_A.sl.r_16 kernelRun0_A.sl.cst_459
  rw [whole_read h1 x (by decide), whole_read h2 ga (by decide), whole_read h3 gb (by decide), whole_read h6 yb (by decide),
    whole_read h9 wa (by decide), whole_read h10 wb (by decide), whole_read h11 wo (by decide), whole_read h12 g (by decide)]
  simp only [View.readAt_eq_ld, Memref.IsWhole.read_unread]
  have hs : ya u v ws b r = fun k => kernelRun0_A.sl.v512 c arg4 h4 arg5 h5 arg7 h7 arg8 h8 arg16 u v ws b (ix2 r k) :=
    funext fun k => (scratch_row c arg4 h4 arg5 h5 arg7 h7 arg8 h8 arg16 u v ws b r k).symm
  rw [hs]
  generalize kernelRun0_A.sl.v512 c arg4 h4 arg5 h5 arg7 h7 arg8 h8 arg16 u v ws b = S
  rw [← funext fun k => mixed_row S x ga gb yb wa wb wo r k]
  generalize k0_pay49 S wa ga = A
  generalize k0_pay50 yb wb gb = B
  unfold ffn
  rw [← funext fun k => norm_row A B x wo g r k, sum_eleven]
  simp only [gated, dot, ← Nat.add_assoc, Nat.reduceAdd]
  unfold k0_pay53
  generalize k0_pay52 A B x wo g = H at *
  generalize k0_pay51 A B x wo = X at *
  pointwise [k0_pay1, k0_pay54, k0_pay55, k0_pay56, k0_pay57, k0_pay58, k0_pay59, k0_pay60, k0_pay61, k0_pay62]

end

end Cert.MidProof

end
-- ==== Proof.MidArray.lean ====
/- The result array of the merge without a last norm: point `t` writes the rows from `512 * t` on, the 64 points cover it. -/
module

public import proofs.«01_k».proof.Proof.MidBlock
public import proofs.«01_k».proof.Proof.MergeArray

@[expose] public section

set_option maxRecDepth 16384

noncomputable section

namespace Cert.MidProof

open Cert.MidIdeal Cert.MidIdeal.Gen Cert.MidIdeal.Value Cert.RowMath Idealize.ShloMosaic Idealize.ShloMosaic.TcCoe
  Idealize.SL.Sem
open Cert.MergeProof (ya frow gating masked arr idx_of)

/-- Flat row `n` of the result. -/
def merged (x ga gb u v yb : (⟨3, ![16, 2048, 1024]⟩ : Shape).Idx → EReal) (w : (⟨3, ![8, 128, 128]⟩ : Shape).Idx → EReal)
    (b : (⟨2, ![8, 128]⟩ : Shape).Idx → EReal) (wa wb wo : (⟨2, ![1024, 1024]⟩ : Shape).Idx → EReal)
    (g : (⟨1, ![1024]⟩ : Shape).Idx → EReal) (wgu : (⟨2, ![1024, 5632]⟩ : Shape).Idx → EReal)
    (wd : (⟨2, ![2816, 1024]⟩ : Shape).Idx → EReal) (n : Fin 32768) : Fin 1024 → EReal :=
  ffn (mixed (frow x n) (frow ga n) (frow gb n) (gating u v w b n) (frow yb n) (fun k l => wa (ix2 k l))
    (fun k l => wb (ix2 k l)) (fun k l => wo (ix2 k l))) (fun k => g (ix1 k)) (fun c k => wgu (ix2 c k))
    (fun k l => wd (ix2 k l))

/-! ## Where each window's block lies -/

/-- Flat row `512 * t + r`. -/
def row (t : Fin cfg0.N) (r : Fin 512) : Fin 32768 := ⟨t.val * 512 + r, by have : t.val < 64 := t.isLt; omega⟩

/-- Every flat row is some point's. -/
theorem row_surj (n : Fin 32768) : ∃ (t : Fin cfg0.N) (r : Fin 512), n = row t r :=
  ⟨⟨n.val / 512, by show _ < 64; omega⟩, ⟨n.val % 512, by omega⟩, Fin.ext (by
    show n.val = n.val / 512 * 512 + n.val % 512; omega)⟩

/-- The windows of the activations and of the result move with the point; each of the others stays at block zero. -/
theorem index_row : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_14.index t (0 : Fin 2) = t.val ∧ win0_14.index t (1 : Fin 2) = 0) :=
  (by decide +kernel : ∀ t : Fin grid0.N, _)

theorem index_all : ∀ t : Fin cfg0.N, (win0_6.index t (0 : Fin 3) = 0 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

theorem emb6 (t : Fin cfg0.N) (g : Fin 8) (a b : Fin 128) : ((cfg0.win 6).blk t).view.emb (ix3 g a b) = ix3 g a b := by
  obtain ⟨h0, h1, h2⟩ := (index_all t).1
  funext j
  fin_cases j
  · exact Fin.ext (by show win0_6.index t (0 : Fin 3) * 8 + 1 * g.val = g.val; omega)
  · exact Fin.ext (by show win0_6.index t (1 : Fin 3) * 128 + 1 * a.val = a.val; omega)
  · exact Fin.ext (by show win0_6.index t (2 : Fin 3) * 128 + 1 * b.val = b.val; omega)

theorem emb14 (t : Fin cfg0.N) (r : Fin 512) (l : Fin 1024) : ((cfg0.win 14).blk t).view.emb (ix2 r l) = ix2 (row t r) l :=
  idx_of _ _ l (index_row t).2.2.2.2.2.2.1 rfl rfl (index_row t).2.2.2.2.2.2.2 rfl

/-! ## The operand arrays -/

section
variable (m : (ℓ : Loc nD τ sig) → Buf (Elt Ideal) ℓ) (c : Dev nD) (t : Fin cfg0.N)

abbrev aX : Vec Ideal S16x2048x1024 .f32 := m ((c : Thread nD τ).loc main_arg0)
abbrev aGa : Vec Ideal S16x2048x1024 .f32 := m ((c : Thread nD τ).loc main_arg1)
abbrev aGb : Vec Ideal S16x2048x1024 .f32 := m ((c : Thread nD τ).loc main_arg2)
abbrev aU : Vec Ideal S16x2048x1024 .bf16 := m ((c : Thread nD τ).loc main_arg3)
abbrev aV : Vec Ideal S16x2048x1024 .bf16 := m ((c : Thread nD τ).loc main_arg4)
abbrev aY : Vec Ideal S16x2048x1024 .bf16 := m ((c : Thread nD τ).loc main_arg5)
abbrev aWs : Vec Ideal S8x128x128 .f32 := m ((c : Thread nD τ).loc main_arg6)
abbrev aBs : Vec Ideal S8x128 .f32 := m ((c : Thread nD τ).loc main_arg7)
abbrev aWa : Vec Ideal S1024x1024 .f32 := m ((c : Thread nD τ).loc main_arg8)
abbrev aWb : Vec Ideal S1024x1024 .f32 := m ((c : Thread nD τ).loc main_arg9)
abbrev aWo : Vec Ideal S1024x1024 .f32 := m ((c : Thread nD τ).loc main_arg10)
abbrev aG : Vec Ideal S1024 .f32 := m ((c : Thread nD τ).loc main_arg11)
abbrev aWg : Vec Ideal S1024x5632 .f32 := m ((c : Thread nD τ).loc main_arg12)
abbrev aWd : Vec Ideal S2816x1024 .f32 := m ((c : Thread nD τ).loc main_arg13)

/-- The result of core `c`'s arguments. -/
abbrev res : Fin 32768 → Fin 1024 → EReal := merged (aX m c) (aGa m c) (aGb m c) (aU m c) (aV m c) (aY m c) (masked (aWs m c))
  (aBs m c) (aWa m c) (aWb m c) (aWo m c) (aG m c) (aWg m c) (aWd m c)

/-- The activations as the region finds them: the arguments, flattened. -/
theorem V_flat : V m c main_v7 = shapeCast S32768x1024 (aX m c) shapeCasts_S16x2048x1024_S32768x1024
    ∧ V m c main_v8 = shapeCast S32768x1024 (aGa m c) shapeCasts_S16x2048x1024_S32768x1024
    ∧ V m c main_v9 = shapeCast S32768x1024 (aGb m c) shapeCasts_S16x2048x1024_S32768x1024
    ∧ V m c main_v10 = shapeCast S32768x1024 (aU m c) shapeCasts_S16x2048x1024_S32768x1024
    ∧ V m c main_v11 = shapeCast S32768x1024 (aV m c) shapeCasts_S16x2048x1024_S32768x1024
    ∧ V m c main_v12 = shapeCast S32768x1024 (aY m c) shapeCasts_S16x2048x1024_S32768x1024 := by
  refine ⟨?_, ?_, ?_, ?_, ?_, ?_⟩
  all_goals
    simp only [V, hostOps0, hostOps0_1, hostOps0_2, hostOps0_3, hostOps0_4, StableHlo.TRef.binary, StableHlo.TRef.nullary,
      StableHlo.TRef.ternary, StableHlo.TRef.unary, StableHlo.TRef.toBuf, StableHlo.TRef.ofBuf, cast_eq, List.flatten_cons,
      List.flatten_nil, List.append_nil, List.cons_append, List.nil_append]
    after_results_simp <;> rfl

/-- The weights: the mixing matrices masked, the bias repeated over a group's columns, the others as given. -/
theorem V_rest : V m c main_v3 = masked (aWs m c)
    ∧ V m c main_v6 = shapeCast S128x1024 (broadcastInDim S128x8x128 ![0, 1] bcast_S128x8_S128x8x128_0_1
      (transpose S128x8 [1, 0] (aBs m c) transposes_S8x128_S128x8_1_0)) shapeCasts_S128x8x128_S128x1024
    ∧ V m c main_v13 = aWa m c ∧ V m c main_v14 = aWb m c ∧ V m c main_v15 = aWo m c
    ∧ V m c main_v16 = aWg m c ∧ V m c main_v17 = aWd m c
    ∧ V m c main_v18 = shapeCast S1x1024 (aG m c) shapeCasts_S1024_S1x1024 := by
  refine ⟨?_, ?_, ?_, ?_, ?_, ?_, ?_, ?_⟩
  all_goals
    simp only [V, hostOps0, hostOps0_1, hostOps0_2, hostOps0_3, hostOps0_4, StableHlo.TRef.binary, StableHlo.TRef.nullary,
      StableHlo.TRef.ternary, StableHlo.TRef.unary, StableHlo.TRef.toBuf, StableHlo.TRef.ofBuf, cast_eq, List.flatten_cons,
      List.flatten_nil, List.append_nil, List.cons_append, List.nil_append]
    after_results_simp <;> rfl

/-! ## The input blocks, and what the output block holds -/

variable {m c t}

/-- An entry of a flattened activation, at a point's row. -/
theorem at_row {W : (⟨2, ![32768, 1024]⟩ : Shape).Idx → EReal} {X : Vec Ideal S16x2048x1024 .f32} (i : S32768x1024.Idx)
    {r : Fin 512} {k : Fin 1024} (hW : W = shapeCast S32768x1024 X shapeCasts_S16x2048x1024_S32768x1024)
    (h0 : (i 0).val = t.val * 512 + 1 * r.val) (h1 : (i 1).val = 0 * 1024 + 1 * k.val) :
    W i = frow X (row t r) k := by
  rw [hW, idx_of i (row t r) k rfl h0 rfl rfl h1]
  exact flat_apply (w := 1024) _ _ (row t r) k

/-- An entry of an array that one block covers. -/
theorem at_all {p q : Nat} {W A : (⟨2, ![p, q]⟩ : Shape).Idx → EReal} (i : (⟨2, ![p, q]⟩ : Shape).Idx) {r : Fin p} {k : Fin q}
    (hW : W = A) (h0 : (i 0).val = 0 * p + 1 * r.val) (h1 : (i 1).val = 0 * q + 1 * k.val) : W i = A (ix2 r k) := by
  rw [hW, idx_of i r k (d := p) (r := r) rfl h0 (by omega) rfl h1]

variable (m c t)

theorem blk0 (r : Fin 512) (k : Fin 1024) : iblk m c 0 t (ix2 r k) = frow (aX m c) (row t r) k :=
  at_row (((cfg0.win 0).blk t).view.emb (ix2 r k)) (V_flat m c).1
    (congrArg (· * 512 + 1 * r.val) (index_row t).1.1) (congrArg (· * 1024 + 1 * k.val) (index_row t).1.2)

theorem blk1 (r : Fin 512) (k : Fin 1024) : iblk m c 1 t (ix2 r k) = frow (aGa m c) (row t r) k :=
  at_row (((cfg0.win 1).blk t).view.emb (ix2 r k)) (V_flat m c).2.1
    (congrArg (· * 512 + 1 * r.val) (index_row t).2.1.1) (congrArg (· * 1024 + 1 * k.val) (index_row t).2.1.2)

theorem blk2 (r : Fin 512) (k : Fin 1024) : iblk m c 2 t (ix2 r k) = frow (aGb m c) (row t r) k :=
  at_row (((cfg0.win 2).blk t).view.emb (ix2 r k)) (V_flat m c).2.2.1
    (congrArg (· * 512 + 1 * r.val) (index_row t).2.2.1.1) (congrArg (· * 1024 + 1 * k.val) (index_row t).2.2.1.2)

theorem blk3 (r : Fin 512) (k : Fin 1024) : iblk m c 3 t (ix2 r k) = frow (aU m c) (row t r) k :=
  at_row (((cfg0.win 3).blk t).view.emb (ix2 r k)) (V_flat m c).2.2.2.1
    (congrArg (· * 512 + 1 * r.val) (index_row t).2.2.2.1.1) (congrArg (· * 1024 + 1 * k.val) (index_row t).2.2.2.1.2)

theorem blk4 (r : Fin 512) (k : Fin 1024) : iblk m c 4 t (ix2 r k) = frow (aV m c) (row t r) k :=
  at_row (((cfg0.win 4).blk t).view.emb (ix2 r k)) (V_flat m c).2.2.2.2.1
    (congrArg (· * 512 + 1 * r.val) (index_row t).2.2.2.2.1.1) (congrArg (· * 1024 + 1 * k.val) (index_row t).2.2.2.2.1.2)

theorem blk5 (r : Fin 512) (k : Fin 1024) : iblk m c 5 t (ix2 r k) = frow (aY m c) (row t r) k :=
  at_row (((cfg0.win 5).blk t).view.emb (ix2 r k)) (V_flat m c).2.2.2.2.2
    (congrArg (· * 512 + 1 * r.val) (index_row t).2.2.2.2.2.1.1) (congrArg (· * 1024 + 1 * k.val) (index_row t).2.2.2.2.2.1.2)

theorem blk6 (g : Fin 8) (a b : Fin 128) : iblk m c 6 t (ix3 g a b) = masked (aWs m c) (ix3 g a b) := by
  show V m c main_v3 (((cfg0.win 6).blk t).view.emb (ix3 g a b)) = _
  rw [emb6, (V_rest m c).1]

theorem blk7 (a : Fin 128) (l : Fin 1024) : iblk m c 7 t (ix2 a l) = aBs m c (ix2 ⟨l / 128, by omega⟩ a) := by
  refine (at_all (((cfg0.win 7).blk t).view.emb (ix2 a l)) (V_rest m c).2.1
    (congrArg (· * 128 + 1 * a.val) (index_all t).2.1.1) (congrArg (· * 1024 + 1 * l.val) (index_all t).2.1.2)).trans ?_
  refine (shapeCast_apply _ shapeCasts_S128x8x128_S128x1024 _ (ix3 a (⟨l / 128, by omega⟩ : Fin 8) (⟨l % 128, by omega⟩ : Fin 128)) ?_).trans ?_
  · rw [Shape.rowMajor_val_three, Shape.rowMajor_val_two]
    show (a.val * 8 + l.val / 128) * 128 + l.val % 128 = a.val * 1024 + l.val
    omega
  · pointwise

theorem blk8 (r : Fin 1024) (k : Fin 1024) : iblk m c 8 t (ix2 r k) = aWa m c (ix2 r k) :=
  at_all (((cfg0.win 8).blk t).view.emb (ix2 r k)) (V_rest m c).2.2.1
    (congrArg (· * 1024 + 1 * r.val) (index_all t).2.2.1.1) (congrArg (· * 1024 + 1 * k.val) (index_all t).2.2.1.2)

theorem blk9 (r : Fin 1024) (k : Fin 1024) : iblk m c 9 t (ix2 r k) = aWb m c (ix2 r k) :=
  at_all (((cfg0.win 9).blk t).view.emb (ix2 r k)) (V_rest m c).2.2.2.1
    (congrArg (· * 1024 + 1 * r.val) (index_all t).2.2.2.1.1) (congrArg (· * 1024 + 1 * k.val) (index_all t).2.2.2.1.2)

theorem blk10 (r : Fin 1024) (k : Fin 1024) : iblk m c 10 t (ix2 r k) = aWo m c (ix2 r k) :=
  at_all (((cfg0.win 10).blk t).view.emb (ix2 r k)) (V_rest m c).2.2.2.2.1
    (congrArg (· * 1024 + 1 * r.val) (index_all t).2.2.2.2.1.1) (congrArg (· * 1024 + 1 * k.val) (index_all t).2.2.2.2.1.2)

theorem blk11 (k : Fin 1024) : iblk m c 11 t (ix2 (0 : Fin 1) k) = aG m c (ix1 k) := by
  refine (at_all (r := (0 : Fin 1)) (((cfg0.win 11).blk t).view.emb (ix2 (0 : Fin 1) k)) (V_rest m c).2.2.2.2.2.2.2
    (congrArg (· * 1 + 1 * 0) (index_all t).2.2.2.2.2.1.1) (congrArg (· * 1024 + 1 * k.val) (index_all t).2.2.2.2.2.1.2)).trans ?_
  pointwise

theorem blk12 (r : Fin 1024) (k : Fin 5632) : iblk m c 12 t (ix2 r k) = aWg m c (ix2 r k) :=
  at_all (((cfg0.win 12).blk t).view.emb (ix2 r k)) (V_rest m c).2.2.2.2.2.1
    (congrArg (· * 1024 + 1 * r.val) (index_all t).2.2.2.2.2.2.1.1) (congrArg (· * 5632 + 1 * k.val) (index_all t).2.2.2.2.2.2.1.2)

theorem blk13 (r : Fin 2816) (k : Fin 1024) : iblk m c 13 t (ix2 r k) = aWd m c (ix2 r k) :=
  at_all (((cfg0.win 13).blk t).view.emb (ix2 r k)) (V_rest m c).2.2.2.2.2.2.1
    (congrArg (· * 2816 + 1 * r.val) (index_all t).2.2.2.2.2.2.2.1) (congrArg (· * 1024 + 1 * k.val) (index_all t).2.2.2.2.2.2.2.2)

/-- The block's gating is the flat rows'. -/
theorem gating_eq (r : Fin 512) : ya (iblk m c 3 t) (iblk m c 4 t) (iblk m c 6 t) (iblk m c 7 t) r
    = gating (aU m c) (aV m c) (masked (aWs m c)) (aBs m c) (row t r) := by
  funext l
  unfold ya gating
  simp only [blk3, blk4, blk6, blk7, frow]
  have ht : t.val < 64 := t.isLt
  have e : ∀ h, (⟨r.val % 128, h⟩ : Fin 128) = ⟨(row t r).val % 128, by omega⟩ := fun _ => Fin.ext (by
    show r.val % 128 = (t.val * 512 + r.val) % 128; omega)
  simp only [e]
  refine congrArg₂ (· * ·) rfl (congrArg₂ (· + ·) (Finset.sum_congr rfl fun k _ => congrArg₂ (· * ·) rfl ?_) rfl)
  refine congrArg (aV m c) (congrArg₂ (fun a b => ix3 a b l) (Fin.ext ?_) (Fin.ext ?_))
  · show (t.val * 512 + (r.val / 128 * 128 + k.val)) / 2048 = (t.val * 512 + r.val) / 2048
    omega
  · show (t.val * 512 + (r.val / 128 * 128 + k.val)) % 2048 = (t.val * 512 + r.val) % 2048 / 128 * 128 + k.val
    omega

theorem flush14 : (dats m 0 c).flushed 14 t = ((cfg0.win 14).blk t).view.read (Elt Ideal) (arr (res m c)) := by
  rw [flushed14_A]
  funext j
  obtain ⟨r, l, rfl⟩ := split j
  show out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r l)
    = arr (res m c) (((cfg0.win 14).blk t).view.emb (ix2 r l))
  rw [out_row, emb14, gating_eq]
  simp only [blk0, blk1, blk2, blk5, blk8, blk9, blk10, blk11, blk12, blk13]
  rfl

/-- The result array after the run. -/
theorem final14 : (dats m 0 c).arrAt 14 cfg0.N = arr (res m c) :=
  (dats m 0 c).arrAt_eq_of_cover 14 _ (fun t _ => flush14 m c t) fun i => by
    obtain ⟨n, l, rfl⟩ := split i
    obtain ⟨t, r, rfl⟩ := row_surj n
    exact ⟨t, flush0_14 _, emb14 t r l ▸ ((cfg0.win 14).blk t).view.emb_mem_set (ix2 r l)⟩

end

end Cert.MidProof

end
-- ==== Proof.MidRef.lean ====
/- The reference of the merge without a last norm, read at an index. -/
module

public import proofs.«01_k».proof.Proof.Gen.MidReferenceIdeal.Run
public import proofs.«01_k».proof.Proof.MergeRef

@[expose] public section

set_option maxRecDepth 16384

noncomputable section

namespace Cert.MidRefProof

open Cert.MidReferenceIdeal Cert.MidReferenceIdeal.Gen Cert.RowMath Idealize.ShloMosaic Idealize.ShloMosaic.TcCoe
  Idealize.SL.Sem

/-- The residual that the mixers leave, of the arguments. -/
def inner (x ga gb : FVec Ideal S16x2048x1024 .f32) (u v yb : FVec Ideal S16x2048x1024 .bf16) (ws : FVec Ideal S8x128x128 .f32)
    (b : FVec Ideal S8x128 .f32) (wa wb wo : FVec Ideal S1024x1024 .f32) : FVec Ideal S16x2048x1024 .f32 :=
  MergeRefProof.mid x ga gb (MergeRefProof.gate u v (MergeRefProof.masked ws) b) (extf .f32 yb bitsLt_bf16_f32) wa wb wo

/-- The feed-forward's residual. -/
def fed (x : FVec Ideal S16x2048x1024 .f32) (g : FVec Ideal S1024 .f32) (w : FVec Ideal S1024x5632 .f32)
    (d : FVec Ideal S2816x1024 .f32) : FVec Ideal S16x2048x1024 .f32 :=
  FfnRefProof.out x (FfnRefProof.act (FfnRefProof.up (FfnRefProof.norm x g) w)) d

theorem fed_apply (x : FVec Ideal S16x2048x1024 .f32) (g : FVec Ideal S1024 .f32) (w : FVec Ideal S1024x5632 .f32)
    (d : FVec Ideal S2816x1024 .f32) (b : Fin 16) (t : Fin 2048) (l : Fin 1024) :
    fed x g w d (ix3 b t l) = ffn (fun k => x (ix3 b t k)) (fun k => g (ix1 k)) (fun c k => w (ix2 c k))
      (fun k l => d (ix2 k l)) l := by
  unfold fed
  rw [FfnRefProof.out_apply]
  simp only [FfnRefProof.act_apply, FfnRefProof.up_apply, FfnRefProof.norm_apply]
  rfl

variable (m : (ℓ : Loc nD τ sig) → Buf (Elt Ideal) ℓ)

/-- The generated result, as one term of its arguments. -/
theorem res_eq (c : Dev nD) : Value.res_main_v57 m c = shapeCast S32768x1024
    (fed (inner (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)))
      (m ((c.tc : Thread nD τ).loc main_arg11)) (m ((c.tc : Thread nD τ).loc main_arg12)) (m ((c.tc : Thread nD τ).loc main_arg13)))
    shapeCasts_S16x2048x1024_S32768x1024 := rfl

end Cert.MidRefProof

end
-- ==== Proof.MidClaim.lean ====
/- The merge without a last norm: its frames, and that its kernel's result and its reference's are the same array. -/
module

public import proofs.«01_k».proof.Proof.Gen.Mid.Frame
public import proofs.«01_k».proof.Proof.MidArray
public import proofs.«01_k».proof.Proof.MidRef
public import proofs.«01_k».proof.Proof.MergeClaim

@[expose] public section

set_option maxRecDepth 16384

noncomputable section

namespace Cert.MidEq

open Cert.RowMath Idealize.ShloMosaic Idealize.ShloMosaic.TcCoe Idealize.SL.Sem

theorem frame : quiescent_Mid := fun m g _ => Mid.Gen.frame m g

theorem frameIdeal : quiescent_MidIdeal := fun m g _ => MidIdeal.Gen.frame m g

theorem frameRef : quiescent_MidReferenceIdeal := fun m g _ => (θ_run _ _ _).mono
  (fun r h => ⟨fun c => (h c).2, sem_eq_zero_of_no_sems (by decide) r.2⟩) (MidReferenceIdeal.Value.run m g)

/-- The two results, as functions of the arguments, are equal. -/
theorem res_eq (x ga gb : FVec Ideal MidReferenceIdeal.S16x2048x1024 .f32) (u v yb : FVec Ideal MidReferenceIdeal.S16x2048x1024 .bf16)
    (ws : FVec Ideal MidReferenceIdeal.S8x128x128 .f32) (b : FVec Ideal MidReferenceIdeal.S8x128 .f32)
    (wa wb wo : FVec Ideal MidReferenceIdeal.S1024x1024 .f32) (g : FVec Ideal MidReferenceIdeal.S1024 .f32)
    (w : FVec Ideal MidReferenceIdeal.S1024x5632 .f32) (d : FVec Ideal MidReferenceIdeal.S2816x1024 .f32) :
    shapeCast MidReferenceIdeal.S32768x1024 (MidRefProof.fed (MidRefProof.inner x ga gb u v yb ws b wa wb wo) g w d)
        MidReferenceIdeal.Gen.shapeCasts_S16x2048x1024_S32768x1024
      = MergeProof.arr (MidProof.merged x ga gb u v yb (MergeProof.masked ws) b wa wb wo g w d) := by
  funext i
  obtain ⟨n, l, rfl⟩ : ∃ (n : Fin 32768) (l : Fin 1024), i = ix2 n l := ⟨i 0, i 1, Shape.idx_ext₂ rfl rfl⟩
  refine (flat_apply (w := 1024) _ _ n l).trans ?_
  rw [MidRefProof.fed_apply]
  unfold MidRefProof.inner
  simp only [MergeRefProof.mid_apply]
  show _ = MidProof.merged x ga gb u v yb (MergeProof.masked ws) b wa wb wo g w d n l
  unfold MidProof.merged
  rw [MergeEq.gating_eq]
  rfl

theorem algebraic : algebraic_MidIdeal_MidReferenceIdeal := fun m g m' g' _ hag =>
  ⟨fun c => MergeProof.arr (MidProof.res m c),
    (θ_run _ _ _).mono (fun _ h c => ⟨(h c).1.trans (MidProof.final14 m c), (h c).2⟩) (MidIdeal.Value.run_blocks m g),
    (θ_run _ _ _).mono (fun _ h c => ⟨(h c).1.trans (by
      obtain ⟨h0, h1, h2, h3, h4, h5, h6, h7, h8, h9, h10, h11, h12, h13⟩ := hag c
      rw [MidRefProof.res_eq, h0, h1, h2, h3, h4, h5, h6, h7, h8, h9, h10, h11, h12, h13]
      exact res_eq _ _ _ _ _ _ _ _ _ _ _ _ _ _), (h c).2⟩) (MidReferenceIdeal.Value.run m' g')⟩

end Cert.MidEq

end
-- ==== Proof.SafeRun.lean ====
/-
  A run of which only this is said: it keeps what it owns. A condition `J` on the memory is KEPT by a program when the
  program, begun in `J`, ends in `J`, whatever it computes between. A buffer is LENT by `J` when `J` gives it out whole,
  at some contents, and takes it back at any contents. Then a load of a lent buffer keeps `J`, a store into one keeps
  `J`, and so does every program made of such loads and stores by sequence, branch and loop.
-/
module

public import Idealize.ShloMosaic.Rules
public import Idealize.ShloMosaic.Lib.Scf
public import Idealize.ShloMosaic.Lib.Memref
public import Idealize.ShloMosaic.Lib.Tactic

@[expose] public section

noncomputable section

namespace Cert.SafeRun

open Idealize.ShloMosaic Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Val : EltTy → Type} {U : Type} [URA U] {Λ : Labels}

local notation "𝕄" => MT nD τ sig Unit Val ℕ U ℕ

variable (defs : Defs nD τ sig Val Λ) (c : Thread nD τ) (J : sProp (MT nD τ sig Unit Val ℕ U ℕ))

/-- The program `p`, begun in `J`, ends in `J`. -/
structure Keeps {α : Type} (p : Prog (TpuEff nD τ sig Val Λ c.2) α) : Prop where
  run : J ⊢ wp frame (wpE (Ix := Unit) (Name := ℕ) (U := U) (Lvl := ℕ) defs Variants.none c none) Set.univ p (fun _ => J)

/-- `J` gives out the buffer under `mr` and takes it back at any contents. -/
structure Lent {sp : Space} {s : Shape} {e : EltTy} (mr : Memref sig c.2.kind sp s e) : Prop where
  open_ : J ⊢ iprop(∃ f : Buf Val (mr.view.loc c), (mr.view.loc c ↦[mr.view.set]{fullShare} f)
    ∗ (∀ f' : Buf Val (mr.view.loc c), (mr.view.loc c ↦[mr.view.set]{fullShare} f') -∗ J))

variable {defs c J}

theorem Keeps.ret {α : Type} (a : α) : Keeps defs c J (pure a) := by
  refine ⟨?_⟩
  rw [wp_pure]
  iintro H
  imodintro
  iexact H

theorem Keeps.bind {α β : Type} {p : Prog (TpuEff nD τ sig Val Λ c.2) α} {k : α → Prog (TpuEff nD τ sig Val Λ c.2) β}
    (hp : Keeps defs c J p) (hk : ∀ a, Keeps defs c J (k a)) : Keeps defs c J (p >>= k) := by
  refine ⟨?_⟩
  rw [wp_bind]
  exact hp.run.trans (wp_mono _ _ _ fun a => (hk a).run)

theorem Keeps.load {cs : CoreSpace} {s : Shape} {e : EltTy} {mr : Memref sig c.2.kind cs s e} {r : LoadRect s}
    {hl : mr.view.LoadsAt r} (h : Lent c J mr) : Keeps defs c J (Prog.lift (.load mr r hl)) := by
  refine ⟨h.open_.trans ?_⟩
  iintro ⟨%f, Hf, Hback⟩
  iapply (wp_load (defs := defs) Variants.none c none Set.univ (hl := hl) (mr.view.setOn_subset_set _)) $$ Hf
  iintro Hf
  simp only [wp_ret]
  imodintro
  iapply Hback
  iexact Hf

theorem Keeps.store {cs : CoreSpace} {s : Shape} {e : EltTy} {mr : Memref sig c.2.kind cs s e} {r : Rect s}
    {w : r.shape.Idx → Val e} {Mk : Finset r.shape.Idx} {hx : (mr.access r).Stores Mk}
    {hm : Mk = Finset.univ ∨ ∀ a, r.stride a = 1}
    (h : Lent c J mr) : Keeps defs c J (Prog.lift (.store mr r w Mk hx hm)) := by
  refine ⟨h.open_.trans ?_⟩
  iintro ⟨%f, Hf, Hback⟩
  iapply (wp_store (defs := defs) Variants.none c none Set.univ (hx := hx) (hm := hm)
    (((mr.access r).setOn_subset_set _).trans (mr.view.set_slice_subset r))) $$ Hf
  iintro Hf
  simp only [wp_ret]
  imodintro
  iapply Hback
  iexact Hf

theorem Keeps.loop {n : ℕ} {σ : Type} {lb ub st : BitVec n} {hok : Scf.OK lb ub st} {init : σ}
    {body : Fin (Scf.trips lb ub st) → σ → Prog (TpuEff nD τ sig Val Λ c.2) σ}
    (h : ∀ k acc, Keeps defs c J (body k acc)) : Keeps defs c J (Scf.for lb ub st hok init body) := by
  refine ⟨?_⟩
  iintro H
  iapply (Scf.wp_for _ _ _ lb ub st hok init body (fun _ _ => J) fun k acc => (h k acc).run)
  isplitl [H]
  · iexact H
  · iintro %acc H
    iexact H

theorem Keeps.branch {α : Type} {q : Prop} [Decidable q] {p : q → Prog (TpuEff nD τ sig Val Λ c.2) α}
    {p' : ¬ q → Prog (TpuEff nD τ sig Val Λ c.2) α}
    (h : ∀ hq, Keeps defs c J (p hq)) (h' : ∀ hq, Keeps defs c J (p' hq)) : Keeps defs c J (dite q p p') := by
  by_cases hq : q
  · rw [dif_pos hq]
    exact h hq
  · rw [dif_neg hq]
    exact h' hq

end Cert.SafeRun

end
-- ==== Proof.RwkvBody.lean ====
/-
  The body of the RWKV-7 call keeps whatever it runs in: it loads and stores through the memrefs it is given and does
  nothing else to the memory, in straight line, under one branch and one loop. Said of the printed body as it stands.
-/
module

public import proofs.«01_k».proof.Rwkv
public import proofs.«01_k».proof.Proof.SafeRun

@[expose] public section

set_option maxRecDepth 65536

noncomputable section

namespace Cert.RwkvProof

open Idealize.ShloMosaic Idealize.ShloMosaic.TcCoe Idealize.SL Idealize.SL.RA Idealize.SL.BI
open Idealize.SL.BI (sProp)
open Cert.Rwkv Cert.SafeRun

variable {F : FTy → Type} [FloatOps F] [Facts] {U : Type} [URA U] {defs : Defs nD τ sig (Elt F) Λ₀} {c : Dev nD}
  {J : sProp (MT nD τ sig Unit (Elt F) ℕ U ℕ)}

set_option maxHeartbeats 40000000 in
/-- A condition that lends the call's memrefs, window by window and scratch by scratch, is kept by the call's body. -/
theorem body_keeps (i : grid0.Coords)
    {arg2 : Memref sig .tc .vmem S512x3072 .f32} (harg2 : arg2.IsWhole)
    {arg3 : Memref sig .tc .vmem S512x256 .f32} (harg3 : arg3.IsWhole)
    {arg4 : Memref sig .tc .vmem S128x3072 .f32} (harg4 : arg4.IsWhole)
    {arg5 : Memref sig .tc .vmem S128x256 .f32} (harg5 : arg5.IsWhole)
    {arg6 : Memref sig .tc .vmem S1x3072 .f32} (harg6 : arg6.IsWhole)
    {arg7 : Memref sig .tc .vmem S1x256 .f32} (harg7 : arg7.IsWhole)
    {arg8 : Memref sig .tc .vmem S1x1024 .f32} (harg8 : arg8.IsWhole)
    {arg9 : Memref sig .tc .vmem S1x1024 .f32} (harg9 : arg9.IsWhole)
    {arg10 : Memref sig .tc .vmem S1x1024 .f32} (harg10 : arg10.IsWhole)
    {arg11 : Memref sig .tc .vmem S1x1024 .f32} (harg11 : arg11.IsWhole)
    {arg12 : Memref sig .tc .vmem S1x1024 .f32} (harg12 : arg12.IsWhole)
    {arg13 : Memref sig .tc .vmem S1x1024 .f32} (harg13 : arg13.IsWhole)
    {arg14 : Memref sig .tc .vmem S1x1024 .f32} (harg14 : arg14.IsWhole)
    {arg15 : Memref sig .tc .vmem S128x1024 .bf16} (harg15 : arg15.IsWhole)
    {arg16 : Memref sig .tc .vmem S128x1024 .bf16} (harg16 : arg16.IsWhole)
    {arg17 : Memref sig .tc .vmem S512x1024 .bf16} (harg17 : arg17.IsWhole)
    {arg18 : Memref sig .tc .vmem S512x1024 .f32} (harg18 : arg18.IsWhole)
    {arg19 : Memref sig .tc .vmem S8x3072 .f32} (harg19 : arg19.IsWhole)
    {arg20 : Memref sig .tc .vmem S8x256 .f32} (harg20 : arg20.IsWhole)
    {arg21 : Memref sig .tc .vmem S4x256x256 .f32} (harg21 : arg21.IsWhole)
    {arg22 : Memref sig .tc .vmem S12x64x128 .bf16} (harg22 : arg22.IsWhole)
    {arg23 : Memref sig .tc .vmem S2x256x128 .bf16} (harg23 : arg23.IsWhole)
    {arg24 : Memref sig .tc .vmem S256x256 .bf16} (harg24 : arg24.IsWhole)
    {arg25 : Memref sig .tc .vmem S64x64 .bf16} (harg25 : arg25.IsWhole)
    {arg26 : Memref sig .tc .vmem S2x128x1024 .bf16} (harg26 : arg26.IsWhole)
    {arg27 : Memref sig .tc .vmem S2x128x1024 .bf16} (harg27 : arg27.IsWhole)
    {arg28 : Memref sig .tc .vmem S2x128x1024 .bf16} (harg28 : arg28.IsWhole)
    {arg29 : Memref sig .tc .vmem S2x64x1024 .f32} (harg29 : arg29.IsWhole)
    {arg30 : Memref sig .tc .vmem S2x64x1024 .f32} (harg30 : arg30.IsWhole)
    {arg31 : Memref sig .tc .vmem S2x8x1024 .f32} (harg31 : arg31.IsWhole)
    {arg32 : Memref sig .tc .vmem S64x1024 .f32} (harg32 : arg32.IsWhole)
    {arg33 : Memref sig .tc .vmem S64x1024 .f32} (harg33 : arg33.IsWhole)
    {arg34 : Memref sig .tc .vmem S64x1024 .f32} (harg34 : arg34.IsWhole)
    (l2 : Lent (c : Thread nD τ) J arg2)
    (l3 : Lent (c : Thread nD τ) J arg3)
    (l4 : Lent (c : Thread nD τ) J arg4)
    (l5 : Lent (c : Thread nD τ) J arg5)
    (l6 : Lent (c : Thread nD τ) J arg6)
    (l7 : Lent (c : Thread nD τ) J arg7)
    (l8 : Lent (c : Thread nD τ) J arg8)
    (l9 : Lent (c : Thread nD τ) J arg9)
    (l10 : Lent (c : Thread nD τ) J arg10)
    (l11 : Lent (c : Thread nD τ) J arg11)
    (l12 : Lent (c : Thread nD τ) J arg12)
    (l13 : Lent (c : Thread nD τ) J arg13)
    (l14 : Lent (c : Thread nD τ) J arg14)
    (l15 : Lent (c : Thread nD τ) J arg15)
    (l16 : Lent (c : Thread nD τ) J arg16)
    (l17 : Lent (c : Thread nD τ) J arg17)
    (l18 : Lent (c : Thread nD τ) J arg18)
    (l19 : Lent (c : Thread nD τ) J arg19)
    (l20 : Lent (c : Thread nD τ) J arg20)
    (l21 : Lent (c : Thread nD τ) J arg21)
    (l22 : Lent (c : Thread nD τ) J arg22)
    (l23 : Lent (c : Thread nD τ) J arg23)
    (l24 : Lent (c : Thread nD τ) J arg24)
    (l25 : Lent (c : Thread nD τ) J arg25)
    (l26 : Lent (c : Thread nD τ) J arg26)
    (l27 : Lent (c : Thread nD τ) J arg27)
    (l28 : Lent (c : Thread nD τ) J arg28)
    (l29 : Lent (c : Thread nD τ) J arg29)
    (l30 : Lent (c : Thread nD τ) J arg30)
    (l31 : Lent (c : Thread nD τ) J arg31)
    (l32 : Lent (c : Thread nD τ) J arg32)
    (l33 : Lent (c : Thread nD τ) J arg33)
    (l34 : Lent (c : Thread nD τ) J arg34) :
    Keeps defs (c : Thread nD τ) J (cc0_rwkv7_first i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) := by
  repeat' first
    | with_reducible exact Keeps.ret _
    | with_reducible assumption
    | with_reducible exact Keeps.load (by assumption)
    | with_reducible exact Keeps.store (by assumption)
    | with_reducible refine Keeps.loop ?_
    | with_reducible refine Keeps.branch ?_ ?_
    | intro _
    | refine Keeps.bind ?_ ?_
    | exact Keeps.ret _
    | refine Keeps.branch ?_ ?_
    | refine Keeps.loop ?_

end Cert.RwkvProof

end
-- ==== Proof.LentParts.lean ====
/-
  How a condition comes to lend a buffer: a buffer owned at some contents is lent by that, a conjunction lends what either
  half lends, and a conjunction over a finite set lends what any one member lends.
-/
module

public import proofs.«01_k».proof.Proof.SafeRun

@[expose] public section

noncomputable section

namespace Cert.SafeRun

open Idealize.ShloMosaic Idealize.SL Idealize.SL.RA Idealize.SL.Sem Idealize.SL.ProofMode
open Idealize.SL.BI (sProp bigSep bigSep_erase)
open scoped Idealize.SL.BI
open Idealize.SL.BI.BIBase Idealize.SL.BI.Laws

variable {nD : Nat} {τ : Topo} {sig : RefSig} {Val : EltTy → Type} {U : Type} [URA U]
variable {c : Thread nD τ} {A B : sProp (MT nD τ sig Unit Val ℕ U ℕ)}
variable {sp : Space} {s : Shape} {e : EltTy} {mr : Memref sig c.2.kind sp s e}

theorem Lent.left (h : Lent c A mr) : Lent c iprop(A ∗ B) mr := by
  refine ⟨?_⟩
  iintro ⟨HA, HB⟩
  ihave HA := h.open_ $$ HA
  icases HA with ⟨%f, Hf, Hback⟩
  iexists f
  isplitl [Hf]
  · iexact Hf
  iintro %f' Hf
  isplitl [Hf Hback]
  · iapply Hback
    iexact Hf
  · iexact HB

theorem Lent.right (h : Lent c B mr) : Lent c iprop(A ∗ B) mr := by
  refine ⟨?_⟩
  iintro ⟨HA, HB⟩
  ihave HB := h.open_ $$ HB
  icases HB with ⟨%f, Hf, Hback⟩
  iexists f
  isplitl [Hf]
  · iexact Hf
  iintro %f' Hf
  isplitl [HA]
  · iexact HA
  · iapply Hback
    iexact Hf

/-- One member of a finite conjunction lends for the whole. -/
theorem Lent.member {I : Type} [DecidableEq I] {S : Finset I} {Φ : I → sProp (MT nD τ sig Unit Val ℕ U ℕ)} (i : I) (hi : i ∈ S)
    (h : Lent c (Φ i) mr) : Lent c (bigSep S Φ) mr := by
  rw [bigSep_erase hi]
  exact h.left

/-- A memref owned at some contents is lent. -/
theorem Lent.owned (mr : Memref sig c.2.kind sp s e) :
    Lent (U := U) c iprop(∃ X : s.Idx → Val e, owns c mr fullShare X) mr := by
  refine ⟨?_⟩
  iintro ⟨%X, H⟩
  unfold owns
  icases H with ⟨%f, %hf, Hf⟩
  iexists f
  isplitl [Hf]
  · iexact Hf
  iintro %f' Hf
  iexists _
  iexists f'
  isplitr
  · ipureintro
    rfl
  · iexact Hf

/-- A buffer held whole at some contents is lent as a memref. -/
theorem Lent.buffer (b : Ref sig c.2.kind) :
    Lent (U := U) c iprop(∃ f : Buf Val (c.loc b), (c.loc b) ↦{fullShare} f) (Memref.whole b) := by
  have h := Lent.owned (U := U) (Val := Val) (c := c) (Memref.whole b)
  simp only [owns_whole] at h
  exact h

end Cert.SafeRun

end
-- ==== Proof.RwkvFrame.lean ====
/-
  The frame of the RWKV-7 call. Of every window and every scratch buffer only this is said: it is held at some contents.
  The body keeps that (`body_keeps`), so the call runs to its end at every point, and the arguments, which the body never
  sees but through copies, end as they began.
-/
module

public import proofs.«01_k».proof.Proof.Gen.Rwkv.Frame
public import proofs.«01_k».proof.Proof.RwkvBody
public import proofs.«01_k».proof.Proof.LentParts

@[expose] public section

set_option maxRecDepth 65536

noncomputable section

namespace Cert.RwkvProof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation RDat)
open Cert.Rwkv Cert.Rwkv.Gen Cert.SafeRun

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's data: the arrays as the call finds them, and nothing said of what any window or scratch buffer holds. -/
def data (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q w := Pipeline.shareOf spec0 w
  owed _ := 0

/-- What is held around one point's run of the body. -/
abbrev held (c : Dev nD) (t : Fin cfg0.N) : sProp 𝕄 :=
  iprop(Pipeline.ΦA spec0 c ∗ (data m 0 c).owesAt () t.castSucc
    ∗ bigSep Finset.univ fun w : Fin cfg0.W => iprop(∃ X, owns c ((cfg0.win w).stage (cfg0.slots t w)) fullShare X))

theorem lent_window (c : Dev nD) (t : Fin cfg0.N) (w : Fin cfg0.W) :
    Lent (c : Thread nD τ) (held m c t) ((cfg0.win w).stage (cfg0.slots t w)) :=
  (((Lent.owned _).member (Φ := fun w : Fin cfg0.W =>
    iprop(∃ X, owns (c : Thread nD τ) ((cfg0.win w).stage (cfg0.slots t w)) fullShare X)) w (Finset.mem_univ w)).right).right

theorem lent_scratch (c : Dev nD) (t : Fin cfg0.N) (b : Ref sig .tc)
    (hb : b ∈ (Finset.univ.filter fun b : Ref sig .tc => b.isScoped) \ Finset.univ.image (Pipeline.stageRef spec0)) :
    Lent (c : Thread nD τ) (held m c t) (Memref.whole b) := by
  unfold held Pipeline.ΦA Pipeline.scopedRest
  have h : Lent (U := UR sig nD τ) (Val := Elt F) (c : Thread nD τ)
      iprop(∃ f : Buf (Elt F) ((c : Thread nD τ).loc b), ((c : Thread nD τ).loc b) ↦{fullShare} f) (Memref.whole b) :=
    Lent.buffer (c := (c : Thread nD τ)) b
  exact ((h.member (Φ := fun b : Ref sig .tc =>
    iprop(∃ f : Buf (Elt F) ((c : Thread nD τ).loc b), ((c : Thread nD τ).loc b) ↦{fullShare} f)) b hb).left).left

/-- One point's run of the body keeps what is held around it. -/
theorem point_keeps (c : Dev nD) (t : Fin cfg0.N) :
    Keeps (defs₀ (F := F)) (c : Thread nD τ) (held m c t) (bodyAt0 t) :=
  body_keeps (grid0.coords t) _ _ _ _ _ _ _ _ _ _ _ _ _ _ _ _ _ _ _ _ _ _ _ _ _ _ _ _ _ _ _ _ _
        (lent_window m c t 0)
        (lent_window m c t 1)
        (lent_window m c t 2)
        (lent_window m c t 3)
        (lent_window m c t 4)
        (lent_window m c t 5)
        (lent_window m c t 6)
        (lent_window m c t 7)
        (lent_window m c t 8)
        (lent_window m c t 9)
        (lent_window m c t 10)
        (lent_window m c t 11)
        (lent_window m c t 12)
        (lent_window m c t 13)
        (lent_window m c t 14)
        (lent_window m c t 15)
        (lent_window m c t 16)
        (lent_scratch m c t cc0_scratch0 (by decide))
        (lent_scratch m c t cc0_scratch1 (by decide))
        (lent_scratch m c t cc0_scratch2 (by decide))
        (lent_scratch m c t cc0_scratch3 (by decide))
        (lent_scratch m c t cc0_scratch4 (by decide))
        (lent_scratch m c t cc0_scratch5 (by decide))
        (lent_scratch m c t cc0_scratch6 (by decide))
        (lent_scratch m c t cc0_scratch7 (by decide))
        (lent_scratch m c t cc0_scratch8 (by decide))
        (lent_scratch m c t cc0_scratch9 (by decide))
        (lent_scratch m c t cc0_scratch10 (by decide))
        (lent_scratch m c t cc0_scratch11 (by decide))
        (lent_scratch m c t cc0_scratch12 (by decide))
        (lent_scratch m c t cc0_scratch13 (by decide))
        (lent_scratch m c t cc0_scratch14 (by decide))
        (lent_scratch m c t cc0_scratch15 (by decide))

theorem body_row (t : Fin cfg0.N) : defs₀ (F := F) .tc cfg0.body (cfg0.bodyArgs t (cfg0.slots t)) = bodyAt0 t := by
  unfold defs₀
  rw [Defs.onTc_tc]

/-- The call's obligation at every point, no window's contents named. -/
theorem obligation (c : Dev nD) :
    BodyObligation (data m 0 c) (defs₀ (F := F)) Variants.none () Set.univ (fun _ => true) := fun t => by
  rw [body_row]
  exact (point_keeps m c t).run

set_option backward.isDefEq.respectTransparency.types false in
/-- The whole run: it ends, with every array as the data say and every counter at zero. -/
theorem run : θ_run defs (onTc (τ := τ) (main (F := F))) (s₀ m ρ)
    (fun r => RDat.FramePost cfg0 (fun c => (data m 0 c).toRForget fun _ => true) (V m) r ∧ r.2.sem = fun _ => 0) :=
  Pipeline.θ_run_frame_forget_shared (Q' := _) cfgs (data m) (0 : Fin 1) launch₀0 defs₀ Variants.none (fun _ => true) m ρ main
    (hbody := fun c => (obligation m c).loose) (hq := fun _ _ _ => rfl) (howed := fun _ _ => rfl) (V := V m)
    (hmain := hmain m Variants.none) (hA := fun _ _ => rfl) (hΦ := fun _ _ => rfl) (hQ' := fun _ h => h)

/-- The frame: every argument's array ends as it began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun _ h => ⟨fun c => ⟨(h.1.arr_in c 2 rfl).trans (V_main_arg0 m c),
      (h.1.arr_in c 3 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩, h.2⟩) (run m ρ)

end Cert.RwkvProof

end
-- ==== Proof.RwkvClaim.lean ====
/-
  The claims about the RWKV-7 call. Its idealization has the call's own text, so one run serves both frames: the two
  tables of bodies are equal row by row, and the host lines are equal as they stand.
-/
module

public import proofs.«01_k».proof.Defs
public import proofs.«01_k».proof.Proof.Gen.RwkvIdeal
public import proofs.«01_k».proof.Proof.RwkvFrame

@[expose] public section

set_option maxRecDepth 65536

noncomputable section

namespace Cert.RwkvProof

open Idealize.ShloMosaic Idealize.ShloMosaic.TcCoe Idealize.SL.Sem

variable {F : FTy → Type} [FloatOps F]

set_option maxHeartbeats 4000000 in
/-- The call's body is the idealization's. -/
theorem bodies_eq : Rwkv.defs₀ (F := F) = RwkvIdeal.defs₀ (F := F) := by
  unfold Rwkv.defs₀ RwkvIdeal.defs₀
  refine congrArg Defs.onTc (funext fun l => funext fun a => ?_)
  match l, a with
  | 0, (t, s) => rfl

set_option maxHeartbeats 4000000 in
/-- And so is the whole table, the pipeline's own rows being made from it. -/
theorem defs_eq : Rwkv.defs (F := F) = RwkvIdeal.defs (F := F) := by
  unfold Rwkv.defs RwkvIdeal.defs
  exact congrArg (Pipeline.defs (Rwkv.pcfgs (F := F))) bodies_eq

theorem frameKernel : quiescent_Rwkv := fun m g _ => frame m g

set_option maxHeartbeats 4000000 in
theorem frameIdeal : quiescent_RwkvIdeal := fun m g _ => by
  have h := frame (F := Ideal) m g
  rw [defs_eq] at h
  exact h

end Cert.RwkvProof

end
-- ==== Proof.lean ====
module

public import proofs.«01_k».proof.Proof.Gen.KernelIdeal.Value
public import proofs.«01_k».proof.Proof.Gen.FfnIdeal.Value
public import proofs.«01_k».proof.Proof.Gen.InprojIdeal.Value
public import proofs.«01_k».proof.Proof.Gen.MidIdeal.Value
public import proofs.«01_k».proof.Proof.Gen.ReferenceIdeal.Run
public import proofs.«01_k».proof.Proof.Gen.FfnReferenceIdeal.Run
public import proofs.«01_k».proof.Proof.Gen.InprojReferenceIdeal.Run
public import proofs.«01_k».proof.Proof.Gen.MidReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojReferenceIdeal
public import proofs.«01_k».proof.Proof.Gen.Rwkv
public import proofs.«01_k».proof.Proof.Gen.Rwkv.Launch
public import proofs.«01_k».proof.Proof.Gen.Rwkv.Points
public import proofs.«01_k».proof.Proof.Gen.Rwkv.Frame
public import proofs.«01_k».proof.Proof.Gen.RwkvIdeal
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidReferenceIdeal
public import proofs.«01_k».proof.Proof.MergeClaim
public import proofs.«01_k».proof.Proof.FfnClaim
public import proofs.«01_k».proof.Proof.InprojClaim
public import proofs.«01_k».proof.Proof.MidClaim
public import proofs.«01_k».proof.Proof.RwkvClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.Inproj.Gen.facts, Cert.InprojIdeal.Gen.facts, Cert.InprojReferenceIdeal.Gen.facts,
  Cert.Mid.Gen.facts, Cert.MidIdeal.Gen.facts, Cert.MidReferenceIdeal.Gen.facts, Cert.Rwkv.Gen.facts, Cert.RwkvIdeal.Gen.facts,
  fun m g _ => Cert.Kernel.Gen.frame m g, fun m g _ => Cert.KernelIdeal.Gen.frame m g,
  fun m g _ => (θ_run _ _ _).mono (fun r h => ⟨fun c => (h c).2, sem_eq_zero_of_no_sems (by decide) r.2⟩)
    (ReferenceIdeal.Value.run m g),
  FfnEq.frame, FfnEq.frameIdeal, FfnEq.frameRef, InprojEq.frame, InprojEq.frameIdeal, InprojEq.frameRef, MidEq.frame, MidEq.frameIdeal, MidEq.frameRef,
  RwkvProof.frameKernel, RwkvProof.frameIdeal,
  trivial, MergeEq.algebraic, trivial, FfnEq.algebraic, trivial, InprojEq.algebraic, trivial, MidEq.algebraic, trivial⟩

end Cert.Proof

end
